-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_score_weights [hPre_finite_score_weights : Cert.Pre_finite_score_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_score_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_score_weights [hPre_finite_score_weights : Cert.Pre_finite_score_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_score_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_score_weights [hKernelIdeal : Cert.KernelIdeal.Facts] [hPre_finite_score_weights : Cert.Pre_finite_score_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_score_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_score_weights [hReferenceIdeal : Cert.ReferenceIdeal.Facts] [hPre_finite_score_weights : Cert.Pre_finite_score_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_score_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_score_weights [hKernelIdeal : Cert.KernelIdeal.Facts] [hReferenceIdeal : Cert.ReferenceIdeal.Facts] [hPre_finite_score_weights : Cert.Pre_finite_score_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_score_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_score_weights : Cert.Pre_finite_score_weights.Facts),
    quiescent_Kernel (hKernel := hKernel)
    ∧ quiescent_KernelIdeal (hKernelIdeal := hKernelIdeal)
    ∧ quiescent_KernelIdeal_pre_finite_score_weights (hKernelIdeal := hKernelIdeal) (hPre_finite_score_weights := hPre_finite_score_weights)
    ∧ quiescent_ReferenceIdeal (hReferenceIdeal := hReferenceIdeal)
    ∧ quiescent_ReferenceIdeal_pre_finite_score_weights (hReferenceIdeal := hReferenceIdeal) (hPre_finite_score_weights := hPre_finite_score_weights)
    ∧ preserves_Kernel_KernelIdeal
    ∧ algebraic_KernelIdeal_ReferenceIdeal_pre_finite_score_weights (hKernelIdeal := hKernelIdeal) (hReferenceIdeal := hReferenceIdeal) (hPre_finite_score_weights := hPre_finite_score_weights)
-- ==== Pre_finite_score_weights.lean ====
abbrev S32768x64 : Shape := ⟨2, ![32768, 64]⟩
abbrev S16x64 : Shape := ⟨2, ![16, 64]⟩
abbrev S32768 : Shape := ⟨1, ![32768]⟩
abbrev S64x64 : Shape := ⟨2, ![64, 64]⟩
abbrev S64 : Shape := ⟨1, ![64]⟩
abbrev S64x1 : Shape := ⟨2, ![64, 1]⟩
abbrev S_ : Shape := ⟨0, ![]⟩

class Facts : Prop where
  bcast_S_S64x1 : S_.BroadcastsInDim S64x1 (![] : Fin 0 → Fin S64x1.rank)
  reducesTo_S64x1_S_d0_1 : S64x1.ReducesTo [0, 1] S_
  h_S_ : 0 < S_.numel

variable [Facts]

def fn {F : FTy → Type} [FloatOps F] (main_arg0 : FVec F S32768x64 .f32) (main_arg1 : FVec F S16x64 .f32) (main_arg2 : IVec S32768 32) (main_arg3 : FVec F S64x64 .f32) (main_arg4 : FVec F S64 .f32) (main_arg5 : FVec F S64x64 .f32) (main_arg6 : FVec F S64x1 .f32) : IVec S_ 1 :=
  let main_v0 : FVec F S64x1 .f32 := Host.absf main_arg6
  let main_cst : FVec F S_ .f32 := constant S_ .f32 0x7F800000#32
  let main_v1 : FVec F S64x1 .f32 := broadcastInDim S64x1 ![] bcast_S_S64x1 main_cst
  let main_v2 : IVec S64x1 1 := cmpf .olt main_v0 main_v1
  let main_c : IVec S_ 1 := constantI S_ 1 1#1
  let main_v3 : IVec S_ 1 := (fun x v => Host.reduce IntOp.andi x v reducesTo_S64x1_S_d0_1 h_S_) main_v2 main_c
  main_v3
-- ==== Kernel.lean ====
abbrev S32768x64 : Shape := ⟨2, ![32768, 64]⟩
abbrev S16x64 : Shape := ⟨2, ![16, 64]⟩
abbrev S32768 : Shape := ⟨1, ![32768]⟩
abbrev S64x64 : Shape := ⟨2, ![64, 64]⟩
abbrev S64 : Shape := ⟨1, ![64]⟩
abbrev S64x1 : Shape := ⟨2, ![64, 1]⟩
abbrev S64x32768 : Shape := ⟨2, ![64, 32768]⟩
abbrev S1x64 : Shape := ⟨2, ![1, 64]⟩
abbrev S4x1x8192 : Shape := ⟨3, ![4, 1, 8192]⟩
abbrev S1x1x8192 : Shape := ⟨3, ![1, 1, 8192]⟩
abbrev S64x8192 : Shape := ⟨2, ![64, 8192]⟩
abbrev S64x16 : Shape := ⟨2, ![64, 16]⟩
abbrev S2x1 : Shape := ⟨2, ![2, 1]⟩
abbrev S16x1 : Shape := ⟨2, ![16, 1]⟩
abbrev S16x16 : Shape := ⟨2, ![16, 16]⟩
abbrev S1 : Shape := ⟨1, ![1]⟩
abbrev S1x1 : Shape := ⟨2, ![1, 1]⟩
abbrev S1x8192 : Shape := ⟨2, ![1, 8192]⟩
abbrev S16x8192 : Shape := ⟨2, ![16, 8192]⟩
abbrev S16 : Shape := ⟨1, ![16]⟩

abbrev nBuf : Space → Nat
  | .hbm => 11
  | .vmem => 16
  | .smem => 0
  | _ => 0

abbrev bufTy : (tb : Table) → Fin (tcTables nBuf tb) → BufTy
  | .hbm, ⟨0, _⟩ => ⟨S32768x64, .f32⟩
  | .hbm, ⟨1, _⟩ => ⟨S16x64, .f32⟩
  | .hbm, ⟨2, _⟩ => ⟨S32768, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x1, .f32⟩
  | .hbm, ⟨7, _⟩ => ⟨S64x32768, .f32⟩
  | .hbm, ⟨8, _⟩ => ⟨S1x64, .f32⟩
  | .hbm, ⟨9, _⟩ => ⟨S4x1x8192, .i32⟩
  | .hbm, ⟨10, _⟩ => ⟨S16x64, .f32⟩
  | .local _ .vmem, ⟨0, _⟩ => ⟨S1x1x8192, .i32⟩
  | .local _ .vmem, ⟨1, _⟩ => ⟨S1x1x8192, .i32⟩
  | .local _ .vmem, ⟨2, _⟩ => ⟨S64x8192, .f32⟩
  | .local _ .vmem, ⟨3, _⟩ => ⟨S64x8192, .f32⟩
  | .local _ .vmem, ⟨4, _⟩ => ⟨S16x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S64x1, .f32⟩
  | .local _ .vmem, ⟨9, _⟩ => ⟨S16x64, .f32⟩
  | .local _ .vmem, ⟨10, _⟩ => ⟨S64x16, .f32⟩
  | .local _ .vmem, ⟨11, _⟩ => ⟨S64x64, .f32⟩
  | .local _ .vmem, ⟨12, _⟩ => ⟨S1x64, .f32⟩
  | .local _ .vmem, ⟨13, _⟩ => ⟨S2x1, .f32⟩
  | .local _ .vmem, ⟨14, _⟩ => ⟨S16x1, .f32⟩
  | .local _ .vmem, ⟨15, _⟩ => ⟨S16x64, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v44 : BitVec 1 := Scalar.cmpi .eq arg0 c3_i32
  let v45 : BitVec 32 := Scalar.extui v44
  let c0_i32_27 : BitVec 32 := 0#32
  let v46 : BitVec 1 := Scalar.cmpi .ne v45 c0_i32_27
  v46

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32768x64 : Shape := ⟨2, ![32768, 64]⟩
abbrev S16x64 : Shape := ⟨2, ![16, 64]⟩
abbrev S32768 : Shape := ⟨1, ![32768]⟩
abbrev S64x64 : Shape := ⟨2, ![64, 64]⟩
abbrev S64 : Shape := ⟨1, ![64]⟩
abbrev S64x1 : Shape := ⟨2, ![64, 1]⟩
abbrev S1x64 : Shape := ⟨2, ![1, 64]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S16 : Shape := ⟨1, ![16]⟩
abbrev S1x16 : Shape := ⟨2, ![1, 16]⟩
abbrev S32768x16 : Shape := ⟨2, ![32768, 16]⟩
abbrev S16x1 : Shape := ⟨2, ![16, 1]⟩

abbrev nBuf : Space → Nat
  | .hbm => 118
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S16x64, .f32⟩
  | .hbm, ⟨2, _⟩ => ⟨S32768, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x1, .f32⟩
  | .hbm, ⟨7, _⟩ => ⟨S32768x64, .f32⟩
  | .hbm, ⟨8, _⟩ => ⟨S16x64, .f32⟩
  | .hbm, ⟨9, _⟩ => ⟨S1x64, .f32⟩
  | .hbm, ⟨10, _⟩ => ⟨S16x64, .f32⟩
  | .hbm, ⟨11, _⟩ => ⟨S16x64, .f32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S1, .i32⟩
  | .hbm, ⟨21, _⟩ => ⟨S_, .i32⟩
  | .hbm, ⟨22, _⟩ => ⟨S32768x1, .i32⟩
  | .hbm, ⟨23, _⟩ => ⟨S32768x1, .i1⟩
  | .hbm, ⟨24, _⟩ => ⟨S1x1, .i32⟩
  | .hbm, ⟨25, _⟩ => ⟨S32768x1, .i32⟩
  | .hbm, ⟨26, _⟩ => ⟨S32768x1, .i1⟩
  | .hbm, ⟨27, _⟩ => ⟨S32768x1, .i1⟩
  | .hbm, ⟨28, _⟩ => ⟨S_, .i1⟩
  | .hbm, ⟨29, _⟩ => ⟨S32768, .i1⟩
  | .hbm, ⟨30, _⟩ => ⟨S32768x64, .f32⟩
  | .hbm, ⟨31, _⟩ => ⟨S32768x64, .i1⟩
  | .hbm, ⟨32, _⟩ => ⟨S_, .f32⟩
  | .hbm, ⟨33, _⟩ => ⟨S32768x64, .f32⟩
  | .hbm, ⟨34, _⟩ => ⟨S32768x64, .f32⟩
  | .hbm, ⟨35, _⟩ => ⟨S32768x64, .f32⟩
  | .hbm, ⟨36, _⟩ => ⟨S32768x64, .f32⟩
  | .hbm, ⟨37, _⟩ => ⟨S32768x64, .f32⟩
  | .hbm, ⟨38, _⟩ => ⟨S_, .f32⟩
  | .hbm, ⟨39, _⟩ => ⟨S32768x64, .f32⟩
  | .hbm, ⟨40, _⟩ => ⟨S32768x64, .f32⟩
  | .hbm, ⟨41, _⟩ => ⟨S_, .f32⟩
  | .hbm, ⟨42, _⟩ => ⟨S32768x64, .f32⟩
  | .hbm, ⟨43, _⟩ => ⟨S32768x64, .f32⟩
  | .hbm, ⟨44, _⟩ => ⟨S32768x1, .f32⟩
  | .hbm, ⟨45, _⟩ => ⟨S32768x1, .i32⟩
  | .hbm, ⟨46, _⟩ => ⟨S16, .i32⟩
  | .hbm, ⟨47, _⟩ => ⟨S1x16, .i32⟩
  | .hbm, ⟨48, _⟩ => ⟨S32768x16, .i32⟩
  | .hbm, ⟨49, _⟩ => ⟨S32768x16, .i32⟩
  | .hbm, ⟨50, _⟩ => ⟨S32768x16, .i1⟩
  | .hbm, ⟨51, _⟩ => ⟨S_, .f32⟩
  | .hbm, ⟨52, _⟩ => ⟨S_, .f32⟩
  | .hbm, ⟨53, _⟩ => ⟨S32768x16, .f32⟩
  | .hbm, ⟨54, _⟩ => ⟨S32768x16, .f32⟩
  | .hbm, ⟨55, _⟩ => ⟨S32768x16, .f32⟩
  | .hbm, ⟨56, _⟩ => ⟨S_, .f32⟩
  | .hbm, ⟨57, _⟩ => ⟨S16, .f32⟩
  | .hbm, ⟨58, _⟩ => ⟨S16x1, .f32⟩
  | .hbm, ⟨59, _⟩ => ⟨S_, .i32⟩
  | .hbm, ⟨60, _⟩ => ⟨S32768, .i32⟩
  | .hbm, ⟨61, _⟩ => ⟨S32768, .i1⟩
  | .hbm, ⟨62, _⟩ => ⟨S_, .i32⟩
  | .hbm, ⟨63, _⟩ => ⟨S32768, .i32⟩
  | .hbm, ⟨64, _⟩ => ⟨S32768, .i32⟩
  | .hbm, ⟨65, _⟩ => ⟨S32768, .i32⟩
  | .hbm, ⟨66, _⟩ => ⟨S32768x1, .i32⟩
  | .hbm, ⟨67, _⟩ => ⟨S1, .i32⟩
  | .hbm, ⟨68, _⟩ => ⟨S_, .i32⟩
  | .hbm, ⟨69, _⟩ => ⟨S32768x1, .i32⟩
  | .hbm, ⟨70, _⟩ => ⟨S32768x1, .i1⟩
  | .hbm, ⟨71, _⟩ => ⟨S1x1, .i32⟩
  | .hbm, ⟨72, _⟩ => ⟨S32768x1, .i32⟩
  | .hbm, ⟨73, _⟩ => ⟨S32768x1, .i1⟩
  | .hbm, ⟨74, _⟩ => ⟨S32768x1, .i1⟩
  | .hbm, ⟨75, _⟩ => ⟨S_, .i1⟩
  | .hbm, ⟨76, _⟩ => ⟨S32768, .i1⟩
  | .hbm, ⟨77, _⟩ => ⟨S32768x1, .f32⟩
  | .hbm, ⟨78, _⟩ => ⟨S32768x1, .i1⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S32768x1, .f32⟩
  | .hbm, ⟨83, _⟩ => ⟨S32768x1, .f32⟩
  | .hbm, ⟨84, _⟩ => ⟨S_, .f32⟩
  | .hbm, ⟨85, _⟩ => ⟨S16x1, .f32⟩
  | .hbm, ⟨86, _⟩ => ⟨S32768x1, .i32⟩
  | .hbm, ⟨87, _⟩ => ⟨S16x1, .f32⟩
  | .hbm, ⟨88, _⟩ => ⟨S_, .i32⟩
  | .hbm, ⟨89, _⟩ => ⟨S32768, .i32⟩
  | .hbm, ⟨90, _⟩ => ⟨S32768, .i1⟩
  | .hbm, ⟨91, _⟩ => ⟨S_, .i32⟩
  | .hbm, ⟨92, _⟩ => ⟨S32768, .i32⟩
  | .hbm, ⟨93, _⟩ => ⟨S32768, .i32⟩
  | .hbm, ⟨94, _⟩ => ⟨S32768, .i32⟩
  | .hbm, ⟨95, _⟩ => ⟨S32768x1, .i32⟩
  | .hbm, ⟨96, _⟩ => ⟨S1, .i32⟩
  | .hbm, ⟨97, _⟩ => ⟨S_, .i32⟩
  | .hbm, ⟨98, _⟩ => ⟨S32768x1, .i32⟩
  | .hbm, ⟨99, _⟩ => ⟨S32768x1, .i1⟩
  | .hbm, ⟨100, _⟩ => ⟨S1x1, .i32⟩
  | .hbm, ⟨101, _⟩ => ⟨S32768x1, .i32⟩
  | .hbm, ⟨102, _⟩ => ⟨S32768x1, .i1⟩
  | .hbm, ⟨103, _⟩ => ⟨S32768x1, .i1⟩
  | .hbm, ⟨104, _⟩ => ⟨S_, .i1⟩
  | .hbm, ⟨105, _⟩ => ⟨S32768, .i1⟩
  | .hbm, ⟨106, _⟩ => ⟨S32768x1, .f32⟩
  | .hbm, ⟨107, _⟩ => ⟨S32768x1, .i1⟩
  | .hbm, ⟨108, _⟩ => ⟨S_, .f32⟩
  | .hbm, ⟨109, _⟩ => ⟨S32768x1, .f32⟩
  | .hbm, ⟨110, _⟩ => ⟨S32768x1, .f32⟩
  | .hbm, ⟨111, _⟩ => ⟨S32768x1, .f32⟩
  | .hbm, ⟨112, _⟩ => ⟨S32768x64, .f32⟩
  | .hbm, ⟨113, _⟩ => ⟨S32768x64, .f32⟩
  | .hbm, ⟨114, _⟩ => ⟨S_, .f32⟩
  | .hbm, ⟨115, _⟩ => ⟨S16x64, .f32⟩
  | .hbm, ⟨116, _⟩ => ⟨S32768x1, .i32⟩
  | .hbm, ⟨117, _⟩ => ⟨S16x64, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_v9 : Ref sig .tc := ⟨.hbm, 39, rfl⟩
abbrev main_v10 : Ref sig .tc := ⟨.hbm, 40, rfl⟩
abbrev main_cst_0 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_1 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v20 : Ref sig .tc := ⟨.hbm, 55, rfl⟩
abbrev main_cst_2 : Ref sig .tc := ⟨.hbm, 56, rfl⟩
abbrev main_v21 : Ref sig .tc := ⟨.hbm, 57, rfl⟩
abbrev main_v22 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_3 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_cst_4 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩

abbrev nD : Nat := 1
abbrev τ : Topo := Topo.v7x

variable {F : FTy → Type} [FloatOps F]
-- ==== Proof.Readout.Mathematics.lean ====
/- The mathematics of the readout, over the extended reals: nothing here names a program. -/
module

public import Idealize.ShloMosaic.PureOps.Ideal
public import Idealize.ShloMosaic.PureOps.Ideal.Laws
public import Mathlib.Analysis.SpecialFunctions.Trigonometric.DerivHyp

@[expose] public section

noncomputable section

namespace Readout

open Idealize.ShloMosaic

/-- The logistic function of an extended real, as a real number: 0 at minus infinity, 1 at plus infinity. -/
def sg (z : EReal) : ℝ := (Ideal.logistic z).toReal

/-- The logistic function of any extended real is a real number. -/
theorem logistic_eq (z : EReal) : Ideal.logistic z = (sg z : EReal) := by
  unfold sg
  induction z using EReal.rec with
  | bot => simp
  | top => simp
  | coe r => simp

/-- A half of an extended real, through the hyperbolic tangent, is twice its logistic value less one. -/
theorem tanh_half (z : EReal) : Ideal.tanh (((1 / 2 : ℝ) : EReal) * z) = ((2 * sg z - 1 : ℝ) : EReal) := by
  unfold sg
  induction z using EReal.rec with
  | bot =>
    rw [EReal.coe_mul_bot_of_pos (by norm_num)]
    simp
  | top =>
    rw [EReal.coe_mul_top_of_pos (by norm_num), Ideal.tanh_top, Ideal.logistic_top, EReal.toReal_one,
      show (2 * 1 - 1 : ℝ) = 1 by norm_num, EReal.coe_one]
  | coe r =>
    rw [← EReal.coe_mul, Ideal.tanh_coe, Ideal.logistic_coe, EReal.toReal_coe]
    congr 1
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    rw [Real.tanh_eq_sinh_div_cosh, Real.sinh_eq, Real.cosh_eq, h1]
    have p1 := Real.exp_pos (1 / 2 * r)
    have p2 := Real.exp_pos (-(1 / 2 * r))
    generalize Real.exp (1 / 2 * r) = a at *
    generalize Real.exp (-(1 / 2 * r)) = b at *
    have h3 : (1 + b * b) ≠ 0 := by positivity
    have h4 : (a + b) ≠ 0 := by positivity
    field_simp
    nlinarith

/-- A sum of real numbers, read as an extended real, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative comes out of a sum of extended reals. -/
theorem mul_sum_coe {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The score by the hyperbolic tangent, half of a weighted sum plus the sum of the weights, is the score by the
    logistic function; both are real because the weights are. -/
theorem score_eq {ι : Type*} [Fintype ι] (w : ι → ℝ) (z : ι → EReal) :
    ((1 / 2 : ℝ) : EReal) * ((∑ d, (w d : EReal) * Ideal.tanh (((1 / 2 : ℝ) : EReal) * z d)) + ∑ d, (w d : EReal))
      = ((∑ d, sg (z d) * w d : ℝ) : EReal) := by
  simp only [tanh_half, ← EReal.coe_mul, ← coe_sum, ← EReal.coe_add]
  congr 1
  rw [← Finset.sum_add_distrib, Finset.mul_sum]
  exact Finset.sum_congr rfl fun d _ => by ring

/-- The reference's score is the same real number. -/
theorem score_logistic {ι : Type*} [Fintype ι] (w : ι → ℝ) (z : ι → EReal) :
    (∑ d, Ideal.logistic (z d) * (w d : EReal)) = ((∑ d, sg (z d) * w d : ℝ) : EReal) := by
  simp only [logistic_eq, ← EReal.coe_mul, ← coe_sum]

/-- The running maximum of scores over the members of a segment, minus infinity for the others, is a real number as
    soon as the segment has a member. -/
theorem max_real {ι : Type*} [Fintype ι] [DecidableEq ι] (P : ι → Prop) [DecidablePred P] (e : ι → ℝ) (n : ι) (hn : P n) :
    ∃ r : ℝ, Finset.univ.fold max (⊥ : EReal) (fun k => if P k then (e k : EReal) else ⊥) = (r : EReal) := by
  set v := Finset.univ.fold max (⊥ : EReal) (fun k => if P k then (e k : EReal) else ⊥) with hv
  have hlt : v < ⊤ := by
    rw [hv, Finset.fold_max_lt]
    refine ⟨bot_lt_top, fun k _ => ?_⟩
    split
    · exact EReal.coe_lt_top _
    · exact bot_lt_top
  have hle : (e n : EReal) ≤ v := by
    rw [hv, Finset.le_fold_max]
    exact Or.inr ⟨n, Finset.mem_univ n, by rw [if_pos hn]⟩
  have hbot : v ≠ ⊥ := fun h => by rw [h] at hle; exact absurd hle (not_le.mpr (EReal.bot_lt_coe _))
  exact ⟨v.toReal, (EReal.coe_toReal hlt.ne hbot).symm⟩

/-- THE READOUT OF ONE SEGMENT. With a common shift `M` of all the scores, the weighted sum divided once at the end (and
    zero where no weight is positive) equals the sum of the features weighted by the normalised exponentials under the
    segment's own maximum `mx`. -/
theorem readout_eq {ι : Type*} (S : Finset ι) (e : ι → ℝ) (M : ℝ) (mx : EReal) (hmx : S.Nonempty → ∃ r : ℝ, mx = r)
    (X : ι → EReal) :
    (if 0 < (∑ n ∈ S, ((Real.exp (e n - M) : ℝ) : EReal)) then
        Ideal.div (∑ n ∈ S, ((Real.exp (e n - M) : ℝ) : EReal) * X n) (∑ n ∈ S, ((Real.exp (e n - M) : ℝ) : EReal))
      else 0)
      = ∑ n ∈ S, Ideal.div (Ideal.exp ((e n : EReal) - mx)) (∑ k ∈ S, Ideal.exp ((e k : EReal) - mx)) * X n := by
  rcases S.eq_empty_or_nonempty with rfl | hS
  · simp
  obtain ⟨r, rfl⟩ := hmx hS
  simp only [← EReal.coe_sub, Ideal.exp_coe, ← coe_sum]
  have hs : 0 < ∑ n ∈ S, Real.exp (e n - M) := Finset.sum_pos (fun n _ => Real.exp_pos _) hS
  have ht : 0 < ∑ n ∈ S, Real.exp (e n - r) := Finset.sum_pos (fun n _ => Real.exp_pos _) hS
  rw [if_pos (by exact_mod_cast hs), Ideal.div_coe hs.ne', mul_comm, mul_sum_coe _ (by positivity)]
  refine Finset.sum_congr rfl fun n _ => ?_
  rw [Ideal.div_coe ht.ne', ← mul_assoc, ← EReal.coe_mul, ← EReal.coe_mul]
  congr 2
  have hk : ∀ k, Real.exp (e k - M) = Real.exp (r - M) * Real.exp (e k - r) := fun k => by
    rw [← Real.exp_add]; congr 1; ring
  have hsum : ∑ n ∈ S, Real.exp (e n - M) = Real.exp (r - M) * ∑ n ∈ S, Real.exp (e n - r) := by
    rw [Finset.mul_sum]; exact Finset.sum_congr rfl fun k _ => hk k
  rw [hsum, hk n]
  have hc := Real.exp_pos (r - M)
  field_simp

end Readout

end
-- ==== Proof.Readout.Scores.lean ====
/- The inputs of the readout as plain functions, and its scores. -/
module

public import Idealize.ShloMosaic.Lib.Pointwise
public import proofs.«01_k».proof.Proof.Readout.Mathematics

@[expose] public section

noncomputable section

namespace Readout

open Idealize.ShloMosaic

/-- The inputs: node features, user features, the segment id of each node (any word: a node whose id names no segment
    joins none), user weights and bias, key weights, and the score weights, which are real. -/
structure Data where
  feats : Fin 32768 → Fin 64 → EReal
  users : Fin 16 → Fin 64 → EReal
  seg : Fin 32768 → BitVec 32
  userw : Fin 64 → Fin 64 → EReal
  bias : Fin 64 → EReal
  keyw : Fin 64 → Fin 64 → EReal
  scorew : Fin 64 → ℝ

namespace Data

variable (D : Data)

/-- The query of segment `s`. -/
def query (s : Fin 16) (d : Fin 64) : EReal := (∑ k : Fin 64, D.users s k * D.userw k d) + D.bias d

/-- The key of node `n`. -/
def key (n : Fin 32768) (d : Fin 64) : EReal := ∑ k : Fin 64, D.feats n k * D.keyw k d

/-- The score of node `n` under the query of segment `b`, a real number. -/
def score (b : Fin 16) (n : Fin 32768) : ℝ := ∑ d : Fin 64, sg (D.query b d + D.key n d) * D.scorew d

/-- Node `n` belongs to segment `b`. -/
abbrev Member (b : Fin 16) (n : Fin 32768) : Prop := D.seg n = BitVec.ofNat 32 b.val

/-- The common shift: the sum of the positive parts of the score weights. -/
def shift : ℝ := ∑ d : Fin 64, max (D.scorew d) 0

/-- The nodes of segment `b`. -/
def nodes (b : Fin 16) : Finset (Fin 32768) := Finset.univ.filter fun n => D.Member b n

/-- The largest score of segment `b`, or bottom if it has no node. -/
def largest (b : Fin 16) : EReal := Finset.univ.fold max (⊥ : EReal) fun n => if D.Member b n then (D.score b n : EReal) else ⊥

/-- The readout by one common shift, guarded against an empty segment. -/
def shifted (b : Fin 16) (d : Fin 64) : EReal :=
  if 0 < ∑ n ∈ D.nodes b, (Real.exp (D.score b n - D.shift) : EReal) then
    Ideal.div (∑ n ∈ D.nodes b, (Real.exp (D.score b n - D.shift) : EReal) * D.feats n d)
      (∑ n ∈ D.nodes b, (Real.exp (D.score b n - D.shift) : EReal))
  else 0

/-- The readout by the softmax of each segment. -/
def softmax (b : Fin 16) (d : Fin 64) : EReal :=
  ∑ n ∈ D.nodes b, Ideal.div (Ideal.exp ((D.score b n : EReal) - D.largest b))
    (∑ k ∈ D.nodes b, Ideal.exp ((D.score b k : EReal) - D.largest b)) * D.feats n d

/-- The two readouts are one function. -/
theorem shifted_eq_softmax (b : Fin 16) (d : Fin 64) : D.shifted b d = D.softmax b d := by
  refine readout_eq (D.nodes b) (D.score b) D.shift (D.largest b) (fun h => ?_) fun n => D.feats n d
  obtain ⟨n, hn⟩ := h
  exact max_real (fun k => D.Member b k) (D.score b) n (Finset.mem_filter.mp hn).2

/-- Seven arrays that hold the inputs `D`. -/
structure Held (x0 : (⟨2, ![32768, 64]⟩ : Shape).Idx → EReal) (x1 : (⟨2, ![16, 64]⟩ : Shape).Idx → EReal)
    (x2 : (⟨1, ![32768]⟩ : Shape).Idx → BitVec 32) (x3 : (⟨2, ![64, 64]⟩ : Shape).Idx → EReal) (x4 : (⟨1, ![64]⟩ : Shape).Idx → EReal)
    (x5 : (⟨2, ![64, 64]⟩ : Shape).Idx → EReal) (x6 : (⟨2, ![64, 1]⟩ : Shape).Idx → EReal) : Prop where
  feats : ∀ n d, x0 (ix2 n d) = D.feats n d
  users : ∀ s d, x1 (ix2 s d) = D.users s d
  seg : ∀ n, x2 (ix1 n) = D.seg n
  userw : ∀ k d, x3 (ix2 k d) = D.userw k d
  bias : ∀ d, x4 (ix1 d) = D.bias d
  keyw : ∀ k d, x5 (ix2 k d) = D.keyw k d
  scorew : ∀ d, x6 (ix2 d 0) = (D.scorew d : EReal)

end Data

end Readout
-- ==== Proof.Readout.Payload.lean ====
/- What each piece of the kernel's arithmetic is at one index, over the extended reals. -/
module

public import Idealize.ShloMosaic.Lib.Pointwise
public import proofs.«01_k».proof.Proof.Gen.KernelIdeal.Value
public import proofs.«01_k».proof.Proof.Readout.Mathematics

@[expose] public section

set_option maxRecDepth 16384

noncomputable section

namespace Readout.Payload

open Cert.KernelIdeal Cert.KernelIdeal.Gen Idealize.ShloMosaic

/-- The constant one half. -/
theorem half : Ideal.ofBits .f32 1056964608#32 = ((1 / 2 : ℝ) : EReal) := by
  simp [Ideal.ofBits, Ideal.ieee, -EReal.coe_mul]; norm_num

/-- A comparison of words, converted to a float, is the indicator of equality. -/
theorem indicator (v w : BitVec 32) :
    FloatOps.sitofp (F := Ideal) FTy.f32 (BitVec.setWidth 32 (IntOp.cmpi CmpIPredicate.eq v w)) = if v = w then 1 else 0 := by
  show (((BitVec.setWidth 32 (BitVec.ofBool (v == w))).toInt : ℝ) : EReal) = _
  by_cases h : v = w
  · simp [h]
  · rw [show (v == w) = false from beq_eq_false_iff_ne.mpr h, if_neg h]
    simp

/-- Words of small numbers are equal exactly when the numbers are. -/
theorem word_inj {n : ℕ} (hn : n ≤ 2 ^ 32) (i j : Fin n) : BitVec.ofNat 32 i.val = BitVec.ofNat 32 j.val ↔ i = j := by
  constructor
  · intro h
    have h' := congrArg BitVec.toNat h
    rw [BitVec.toNat_ofNat, BitVec.toNat_ofNat, Nat.mod_eq_of_lt (i.isLt.trans_le hn), Nat.mod_eq_of_lt (j.isLt.trans_le hn)] at h'
    exact Fin.ext h'
  · rintro rfl; rfl

/-- A sum against an indicator picks one term. -/
theorem sum_pick {n : ℕ} (f : Fin n → EReal) (i : Fin n) : (∑ x, f x * if x = i then (1 : EReal) else 0) = f i := by
  simp

/-- The identity matrix. -/
theorem identity_apply (i j : Fin 64) : (k0_pay6 (F := Ideal)) (ix2 i j) = if i = j then 1 else 0 := by
  pointwise [Gen.k0_pay6]
  rw [indicator]
  exact if_congr (word_inj (by decide) i j) rfl rfl

/-- Half of the user queries: column `s` is half of row `s` of `u · w + b`. -/
theorem query_apply (u : Vec Ideal S16x64 .f32) (w : Vec Ideal S64x64 .f32) (b : Vec Ideal S1x64 .f32) (d : Fin 64) (s : Fin 16) :
    k0_pay7 u w b (ix2 d s) = ((1 / 2 : ℝ) : EReal) * ((∑ k : Fin 64, u (ix2 s k) * w (ix2 k d)) + b (ix2 0 d)) := by
  pointwise [Gen.k0_pay7]
  simp only [indicator, half, word_inj (show 16 ≤ 2 ^ 32 by decide)]
  rw [sum_pick]

/-- Half of the key weights, transposed. -/
theorem keyw_apply (w : Vec Ideal S64x64 .f32) (d d' : Fin 64) :
    k0_pay8 w (ix2 d' d) = ((1 / 2 : ℝ) : EReal) * w (ix2 d d') := by
  pointwise [Gen.k0_pay8, identity_apply]
  rw [half, sum_pick]

/-- The score weights, laid out as a row. -/
theorem weights_apply (w : Vec Ideal S64x1 .f32) (d : Fin 64) : k0_pay9 w (ix2 0 d) = w (ix2 d 0) := by
  pointwise [Gen.k0_pay9, identity_apply]
  simp only [mul_comm _ (w _)]
  exact sum_pick (fun x => w (ix2 x 0)) d

/-- The same row, as stored. -/
theorem weights_stored (w : FVec Ideal S1x64 .f32) (d : Fin 64) : k0_pay10 w (ix2 0 d) = w (ix2 0 d) := by
  pointwise [Gen.k0_pay10]

/-- The shift is the sum of the positive parts of the weights. -/
theorem shift_apply (w : FVec Ideal S1x64 .f32) : k0_pay11 w (ix2 0 0) = ∑ d : Fin 64, max (w (ix2 0 d)) 0 := by
  pointwise [Gen.k0_pay11]

/-- The sum of the weights. -/
theorem total_apply (w : FVec Ideal S1x64 .f32) : k0_pay12 w (ix2 0 0) = ∑ d : Fin 64, w (ix2 0 d) := by
  pointwise [Gen.k0_pay12]

/-- A node puts its exponential in the row of its segment and zero in every other row. -/
theorem weighted_apply (x : Vec Ideal S64x8192 .f32) (g : Vec Ideal S1x1x8192 .i32) (kw : Vec Ideal S64x64 .f32) (q : Vec Ideal S64x16 .f32)
    (w : Vec Ideal S1x64 .f32) (t s : Vec Ideal S1x1 .f32) (b : Fin 16) (n : Fin 8192) :
    k0_pay16 x g kw q w t s (ix2 b n)
      = if g (ix3 0 0 n) = BitVec.ofNat 32 b.val then
          Ideal.exp (((1 / 2 : ℝ) : EReal)
            * ((∑ d : Fin 64, w (ix2 0 d) * Ideal.tanh ((∑ k : Fin 64, kw (ix2 d k) * x (ix2 k n)) + q (ix2 d b))) + t (ix2 0 0)) - s (ix2 0 0))
        else 0 := by
  pointwise [Gen.k0_pay16, Gen.k0_pay15]
  simp only [indicator, half]
  by_cases h : g (ix3 0 0 n) = BitVec.ofNat 32 b.val
  · simp only [h, word_inj (show 16 ≤ 2 ^ 32 by decide)]
    simp only [@eq_comm _ b _, sum_pick]
    rw [if_pos trivial, if_pos trivial, one_mul]
  · rw [if_neg h, if_neg h, zero_mul]

/-- The row sums of a block. -/
theorem rowSums_apply (x : Vec Ideal S64x8192 .f32) (g : Vec Ideal S1x1x8192 .i32) (kw : Vec Ideal S64x64 .f32) (q : Vec Ideal S64x16 .f32)
    (w : Vec Ideal S1x64 .f32) (t s : Vec Ideal S1x1 .f32) (b : Fin 16) :
    k0_pay17 x g kw q w t s (ix2 b 0) = ∑ n : Fin 8192, k0_pay16 x g kw q w t s (ix2 b n) := by
  pointwise [Gen.k0_pay17]

/-- The running normalizer takes a block's row sums. -/
theorem norm_step (l r : FVec Ideal S16x1 .f32) (b : Fin 16) : k0_pay3 l r (ix2 b 0) = l (ix2 b 0) + r (ix2 b 0) := by
  pointwise [Gen.k0_pay3, Gen.k0_pay1]

/-- The running accumulator takes a block's weighted feature sums. -/
theorem acc_step (x : Vec Ideal S64x8192 .f32) (p : FVec Ideal S16x8192 .f32) (a : FVec Ideal S16x64 .f32) (b : Fin 16) (d : Fin 64) :
    k0_pay4 (k0_pay15 x) p a (ix2 b d) = a (ix2 b d) + ∑ n : Fin 8192, p (ix2 b n) * x (ix2 d n) := by
  pointwise [Gen.k0_pay4, Gen.k0_pay2, Gen.k0_pay15]

/-- The normalizer starts at zero. -/
theorem norm_zero (b : Fin 16) : (k0_pay13 (F := Ideal)) (ix2 b 0) = 0 := by
  pointwise [Gen.k0_pay13]

/-- The accumulator starts at zero. -/
theorem acc_zero (b : Fin 16) (d : Fin 64) : (k0_pay14 (F := Ideal)) (ix2 b d) = 0 := by
  pointwise [Gen.k0_pay14]

/-- The result divides the accumulator by the normalizer where that is positive, and is zero elsewhere. -/
theorem result_apply (x : Vec Ideal S64x8192 .f32) (p : FVec Ideal S16x8192 .f32) (l r : FVec Ideal S16x1 .f32) (a : FVec Ideal S16x64 .f32)
    (b : Fin 16) (d : Fin 64) :
    k0_pay5 (k0_pay15 x) p l r a (ix2 b d)
      = if 0 < l (ix2 b 0) + r (ix2 b 0) then
          Ideal.div (a (ix2 b d) + ∑ n : Fin 8192, p (ix2 b n) * x (ix2 d n)) (l (ix2 b 0) + r (ix2 b 0))
        else 0 := by
  pointwise [Gen.k0_pay5, Gen.k0_pay1, Gen.k0_pay2, Gen.k0_pay15]

end Readout.Payload
-- ==== Proof.Readout.Blocks.lean ====
/- The blocks that the kernel reads, as entries of the arguments. -/
module

public import Idealize.ShloMosaic.Lib.ValueIdxCore
public import Idealize.ShloMosaic.Lib.Pointwise
public import Idealize.ShloMosaic.Lib.StableHlo.Run
public import proofs.«01_k».proof.Proof.Gen.KernelIdeal.Value

@[expose] public section

set_option maxRecDepth 16384

noncomputable section

namespace Readout.Blocks

open Cert.KernelIdeal Cert.KernelIdeal.Gen Idealize.ShloMosaic Idealize.ShloMosaic.TcCoe Idealize.SL Idealize.SL.Sem

variable {F : FTy → Type} [FloatOps F]
variable (m : (ℓ : Loc nD τ sig) → Buf (Elt F) ℓ) (c : Dev nD)

/-- The node in column `j` of block `t`. -/
def node (t : Fin 4) (j : Fin 8192) : Fin 32768 := ⟨8192 * t.val + j.val, by omega⟩

/-- The grid point of block `t`. -/
def point (t : Fin 4) : Fin cfg0.N := ⟨t.val, lt_of_lt_of_eq t.isLt (show cfg0.N = 4 from N_0).symm⟩

/-- The transposed features, before the launch of the region. -/
theorem features_T (d : Fin 64) (n : Fin 32768) :
    (V m c main_v0 : Vec F S64x32768 .f32) (ix2 d n) = (m ((c : Thread nD τ).loc main_arg0) : Vec F S32768x64 .f32) (ix2 n d) := by
  have h : (V m c main_v0 : Vec F S64x32768 .f32)
      = transpose S64x32768 [1, 0] (m ((c : Thread nD τ).loc main_arg0) : Vec F S32768x64 .f32) transposes_S32768x64_S64x32768_1_0 := by
    unfold V; after_results
  rw [h]
  pointwise []

/-- The bias as a row. -/
theorem bias_row (d : Fin 64) :
    (V m c main_v1 : Vec F S1x64 .f32) (ix2 0 d) = (m ((c : Thread nD τ).loc main_arg4) : Vec F S64 .f32) (ix1 d) := by
  have h : (V m c main_v1 : Vec F S1x64 .f32)
      = shapeCast S1x64 (m ((c : Thread nD τ).loc main_arg4) : Vec F S64 .f32) shapeCasts_S64_S1x64 := by
    unfold V; after_results; rfl
  rw [h]
  pointwise []

/-- The segment numbers in four blocks. -/
theorem segments_blocked (t : Fin 4) (j : Fin 8192) :
    (V m c main_v2 : Vec F S4x1x8192 .i32) (ix3 t 0 j) = (m ((c : Thread nD τ).loc main_arg2) : Vec F S32768 .i32) (ix1 (node t j)) := by
  have h : (V m c main_v2 : Vec F S4x1x8192 .i32)
      = shapeCast S4x1x8192 (m ((c : Thread nD τ).loc main_arg2) : Vec F S32768 .i32) shapeCasts_S32768_S4x1x8192 := by
    unfold V; after_results; rfl
  rw [h, Pointwise.shapeCast_apply]
  refine congrArg _ (Shape.reshapeEquiv_eq_of_vals _ _ _ (8192 * t.val + j.val) (8192 * t.val + j.val) ?_ ?_ rfl)
  · exact rowMajor_val1 (d := ![32768]) (ix1 (node t j))
  · rw [show ((S4x1x8192.rowMajor (ix3 t 0 j)).val) = _ from rowMajor_val3 (d := ![4, 1, 8192]) (ix3 t 0 j) 8192 8192 rfl rfl]
    show t.val * 8192 + 0 * 8192 + j.val = _
    omega

/-- Block `t` of the segment numbers. -/
theorem seg_block (t : Fin 4) (j : Fin 8192) :
    (iblk m c 0 (point t) : Vec F S1x1x8192 .i32) (ix3 0 0 j) = (m ((c : Thread nD τ).loc main_arg2) : Vec F S32768 .i32) (ix1 (node t j)) := by
  have hi : win0_0.index (point t) 0 = t.val ∧ win0_0.index (point t) 1 = 0 ∧ win0_0.index (point t) 2 = 0 := by
    fin_cases t <;> decide
  rw [← segments_blocked m c]
  unfold iblk
  rw [View.read_apply]
  show V m c main_v2 _ = V m c main_v2 _
  congr 1
  funext a
  apply Fin.ext
  match a with
  | ⟨0, _⟩ => show win0_0.index (point t) 0 * 1 + 1 * 0 = t.val; rw [hi.1]; omega
  | ⟨1, _⟩ => show win0_0.index (point t) 1 * 1 + 1 * 0 = 0; rw [hi.2.1]
  | ⟨2, _⟩ => show win0_0.index (point t) 2 * 8192 + 1 * j.val = j.val; rw [hi.2.2]; omega

/-- Block `t` of the transposed features. -/
theorem feat_block (t : Fin 4) (d : Fin 64) (j : Fin 8192) :
    (iblk m c 1 (point t) : Vec F S64x8192 .f32) (ix2 d j) = (m ((c : Thread nD τ).loc main_arg0) : Vec F S32768x64 .f32) (ix2 (node t j) d) := by
  have hi : win0_1.index (point t) 0 = 0 ∧ win0_1.index (point t) 1 = t.val := by
    fin_cases t <;> decide
  rw [← features_T m c]
  unfold iblk
  rw [View.read_apply]
  show V m c main_v0 _ = V m c main_v0 _
  congr 1
  funext a
  apply Fin.ext
  match a with
  | ⟨0, _⟩ => show win0_1.index (point t) 0 * 64 + 1 * d.val = d.val; rw [hi.1]; omega
  | ⟨1, _⟩ => show win0_1.index (point t) 1 * 8192 + 1 * j.val = 8192 * t.val + j.val; rw [hi.2]; omega

/-- The user features, whole. -/
theorem user_block : (iblk m c 2 (point 0) : Vec F S16x64 .f32) = m ((c : Thread nD τ).loc main_arg1) := by
  rw [← V_main_arg1 m c]
  funext j
  unfold iblk
  rw [View.read_apply]
  show V m c main_arg1 _ = V m c main_arg1 j
  congr 1
  funext a
  apply Fin.ext
  match a with
  | ⟨0, _⟩ => show win0_2.index (point 0) 0 * 16 + 1 * (j 0).val = (j 0).val; rw [show win0_2.index (point 0) 0 = 0 by decide]; omega
  | ⟨1, _⟩ => show win0_2.index (point 0) 1 * 64 + 1 * (j 1).val = (j 1).val; rw [show win0_2.index (point 0) 1 = 0 by decide]; omega

/-- The user weights, whole. -/
theorem userw_block : (iblk m c 3 (point 0) : Vec F S64x64 .f32) = m ((c : Thread nD τ).loc main_arg3) := by
  rw [← V_main_arg3 m c]
  funext j
  unfold iblk
  rw [View.read_apply]
  show V m c main_arg3 _ = V m c main_arg3 j
  congr 1
  funext a
  apply Fin.ext
  match a with
  | ⟨0, _⟩ => show win0_3.index (point 0) 0 * 64 + 1 * (j 0).val = (j 0).val; rw [show win0_3.index (point 0) 0 = 0 by decide]; omega
  | ⟨1, _⟩ => show win0_3.index (point 0) 1 * 64 + 1 * (j 1).val = (j 1).val; rw [show win0_3.index (point 0) 1 = 0 by decide]; omega

/-- The bias row. -/
theorem bias_block (d : Fin 64) :
    (iblk m c 4 (point 0) : Vec F S1x64 .f32) (ix2 0 d) = (m ((c : Thread nD τ).loc main_arg4) : Vec F S64 .f32) (ix1 d) := by
  rw [← bias_row m c]
  unfold iblk
  rw [View.read_apply]
  show V m c main_v1 _ = V m c main_v1 _
  congr 1
  funext a
  apply Fin.ext
  match a with
  | ⟨0, _⟩ => show win0_4.index (point 0) 0 * 1 + 1 * 0 = 0; rw [show win0_4.index (point 0) 0 = 0 by decide]
  | ⟨1, _⟩ => show win0_4.index (point 0) 1 * 64 + 1 * d.val = d.val; rw [show win0_4.index (point 0) 1 = 0 by decide]; omega

/-- The key weights, whole. -/
theorem keyw_block : (iblk m c 5 (point 0) : Vec F S64x64 .f32) = m ((c : Thread nD τ).loc main_arg5) := by
  rw [← V_main_arg5 m c]
  funext j
  unfold iblk
  rw [View.read_apply]
  show V m c main_arg5 _ = V m c main_arg5 j
  congr 1
  funext a
  apply Fin.ext
  match a with
  | ⟨0, _⟩ => show win0_5.index (point 0) 0 * 64 + 1 * (j 0).val = (j 0).val; rw [show win0_5.index (point 0) 0 = 0 by decide]; omega
  | ⟨1, _⟩ => show win0_5.index (point 0) 1 * 64 + 1 * (j 1).val = (j 1).val; rw [show win0_5.index (point 0) 1 = 0 by decide]; omega

/-- The score weights, whole. -/
theorem scorew_block : (iblk m c 6 (point 0) : Vec F S64x1 .f32) = m ((c : Thread nD τ).loc main_arg6) := by
  rw [← V_main_arg6 m c]
  funext j
  unfold iblk
  rw [View.read_apply]
  show V m c main_arg6 _ = V m c main_arg6 j
  congr 1
  funext a
  apply Fin.ext
  match a with
  | ⟨0, _⟩ => show win0_6.index (point 0) 0 * 64 + 1 * (j 0).val = (j 0).val; rw [show win0_6.index (point 0) 0 = 0 by decide]; omega
  | ⟨1, _⟩ => show win0_6.index (point 0) 1 * 1 + 1 * (j 1).val = (j 1).val; rw [show win0_6.index (point 0) 1 = 0 by decide]; omega

end Readout.Blocks
-- ==== Proof.Readout.Cases.lean ====
/- What the kernel's body leaves in its result block and in the scratch that it carries, case by case: the first point
   (it fills the scratch first), a point in the middle, and the last point (it also writes the result). -/
module

public import Idealize.ShloMosaic.Lib.ValueIdxCore
public import proofs.«01_k».proof.Proof.Gen.KernelIdeal.Value

@[expose] public section

set_option maxRecDepth 16384

noncomputable section

namespace Readout.Cases

open Cert.KernelIdeal Cert.KernelIdeal.Gen Idealize.ShloMosaic Idealize.ShloMosaic.TcCoe Idealize.SL Idealize.SL.Sem

variable {F : FTy → Type} [FloatOps F]

/-- Two zero offsets, as a function. -/
theorem zeros2 : (![0, 0] : Fin 2 → Nat) = fun _ => 0 := funext fun a => by fin_cases a <;> rfl

/-- Three zero offsets, as a function. -/
theorem zeros3 : (![0, 0, 0] : Fin 3 → Nat) = fun _ => 0 := funext fun a => by fin_cases a <;> rfl

/-- Row 0 of the two-row scratch: the common shift of the scores. -/
def row0 (y : Vec F S2x1 .f32) : Vec F S1x1 .f32 := fun _ => y (ValueIdx.ix2 0 0)

/-- Row 1 of the two-row scratch: the sum of the weights. -/
def row1 (y : Vec F S2x1 .f32) : Vec F S1x1 .f32 := fun _ => y (ValueIdx.ix2 1 0)

/-- A load of row 0 of the two-row scratch. -/
theorem ld_row0 (y : Vec F S2x1 .f32) (inb) :
    View.ld y (Rect.unit ![0, 0] S1x1.size inb : Rect S2x1) = row0 y := by
  funext j
  unfold row0
  refine congrArg y (funext fun a => Fin.ext ?_)
  have h0 : (j 0).val < 1 := (j 0).isLt
  have h1 : (j 1).val < 1 := (j 1).isLt
  match a with
  | ⟨0, _⟩ => show 0 + 1 * (j 0).val = 0; omega
  | ⟨1, _⟩ => show 0 + 1 * (j 1).val = 0; omega

/-- A load of row 1 of the two-row scratch. -/
theorem ld_row1 (y : Vec F S2x1 .f32) (inb) :
    View.ld y (Rect.unit ![1, 0] S1x1.size inb : Rect S2x1) = row1 y := by
  funext j
  unfold row1
  refine congrArg y (funext fun a => Fin.ext ?_)
  have h0 : (j 0).val < 1 := (j 0).isLt
  have h1 : (j 1).val < 1 := (j 1).isLt
  match a with
  | ⟨0, _⟩ => show 1 + 1 * (j 0).val = 1; omega
  | ⟨1, _⟩ => show 0 + 1 * (j 1).val = 0; omega

/-- The two rows of the scratch do not meet. -/
theorem rows_apart : Disjoint (Rect.unit (s := S2x1) ![1, 0] S1x1.size inb_S2x1_S1x1_1_0).set
    (Rect.unit (s := S2x1) ![0, 0] S1x1.size inb_S2x1_S1x1_0_0).set := by
  rw [Finset.disjoint_left]
  intro y h1 h0
  rw [Rect.mem_set_unit] at h1 h0
  have a1 : 1 ≤ (y 0).val := (h1 0).1
  have a0 : (y 0).val < 0 + 1 := (h0 0).2
  omega

/-- Row 1 stored after row 0, read back at row 1. -/
theorem readCov_row1 (v : View sig .tc .vmem S2x1 .f32) (p q : Vec F S1x1 .f32) :
    v.readCov [⟨Rect.unit (s := S2x1) ![1, 0] S1x1.size inb_S2x1_S1x1_1_0, p⟩, ⟨Rect.unit (s := S2x1) ![0, 0] S1x1.size inb_S2x1_S1x1_0_0, q⟩]
      (Rect.unit (s := S2x1) ![1, 0] S1x1.size inb_S2x1_S1x1_1_0).toLoadRect = p :=
  View.readCov_cons_toLoadRect v _ _ _

/-- Row 1 stored after row 0, read back at row 0. -/
theorem readCov_row0 (v : View sig .tc .vmem S2x1 .f32) (p q : Vec F S1x1 .f32) :
    v.readCov [⟨Rect.unit (s := S2x1) ![1, 0] S1x1.size inb_S2x1_S1x1_1_0, p⟩, ⟨Rect.unit (s := S2x1) ![0, 0] S1x1.size inb_S2x1_S1x1_0_0, q⟩]
      (Rect.unit (s := S2x1) ![0, 0] S1x1.size inb_S2x1_S1x1_0_0).toLoadRect = q :=
  (View.readCov_cons_of_disjoint v _ _ _ rows_apart).trans (View.readCov_cons_toLoadRect v _ _ _)

/-- Row 1 stored after row 0: the scratch's row 0. -/
theorem row0_canon (p q : Vec F S1x1 .f32) :
    row0 (View.canon [(⟨Rect.unit (s := S2x1) ![1, 0] S1x1.size inb_S2x1_S1x1_1_0, p⟩ : View.Piece (Elt F) S2x1 .f32),
      ⟨Rect.unit (s := S2x1) ![0, 0] S1x1.size inb_S2x1_S1x1_0_0, q⟩]) = q := by
  funext j
  unfold row0
  have e : (ValueIdx.ix2 0 0 : S2x1.Idx) = (Rect.unit (s := S2x1) ![0, 0] S1x1.size inb_S2x1_S1x1_0_0).emb j :=
    funext fun a => Fin.ext (by
      have h0 : (j 0).val < 1 := (j 0).isLt
      have h1 : (j 1).val < 1 := (j 1).isLt
      match a with
      | ⟨0, _⟩ => show 0 = 0 + 1 * (j 0).val; omega
      | ⟨1, _⟩ => show 0 = 0 + 1 * (j 1).val; omega)
  have hn : (Rect.unit (s := S2x1) ![0, 0] S1x1.size inb_S2x1_S1x1_0_0).emb j ∉
      (Rect.unit (s := S2x1) ![1, 0] S1x1.size inb_S2x1_S1x1_1_0).set :=
    Finset.disjoint_right.mp rows_apart ((Rect.unit (s := S2x1) ![0, 0] S1x1.size inb_S2x1_S1x1_0_0).toLoadRect.idx_mem j)
  rw [e]
  refine (View.canon_cons_of_not_mem (Val := Elt F) (e := .f32) ⟨Rect.unit (s := S2x1) ![1, 0] S1x1.size inb_S2x1_S1x1_1_0, p⟩
    [⟨Rect.unit (s := S2x1) ![0, 0] S1x1.size inb_S2x1_S1x1_0_0, q⟩] hn).trans ?_
  exact View.canon_cons_emb (Rect.unit (s := S2x1) ![0, 0] S1x1.size inb_S2x1_S1x1_0_0) q [] j

/-- Row 1 stored after row 0: the scratch's row 1. -/
theorem row1_canon (p q : Vec F S1x1 .f32) :
    row1 (View.canon [(⟨Rect.unit (s := S2x1) ![1, 0] S1x1.size inb_S2x1_S1x1_1_0, p⟩ : View.Piece (Elt F) S2x1 .f32),
      ⟨Rect.unit (s := S2x1) ![0, 0] S1x1.size inb_S2x1_S1x1_0_0, q⟩]) = p := by
  funext j
  unfold row1
  have e : (ValueIdx.ix2 1 0 : S2x1.Idx) = (Rect.unit (s := S2x1) ![1, 0] S1x1.size inb_S2x1_S1x1_1_0).emb j :=
    funext fun a => Fin.ext (by
      have h0 : (j 0).val < 1 := (j 0).isLt
      have h1 : (j 1).val < 1 := (j 1).isLt
      match a with
      | ⟨0, _⟩ => show 1 = 1 + 1 * (j 0).val; omega
      | ⟨1, _⟩ => show 0 = 0 + 1 * (j 1).val; omega)
  rw [e]
  exact View.canon_cons_emb (Rect.unit (s := S2x1) ![1, 0] S1x1.size inb_S2x1_S1x1_1_0) _ _ j

variable (c : Dev nD) (i : grid0.Coords)
  (a1 : Memref sig .tc .vmem S1x1x8192 .i32) (h1 : a1.IsWhole)
  (a2 : Memref sig .tc .vmem S64x8192 .f32) (h2 : a2.IsWhole)
  (a3 : Memref sig .tc .vmem S16x64 .f32) (h3 : a3.IsWhole)
  (a4 : Memref sig .tc .vmem S64x64 .f32) (h4 : a4.IsWhole)
  (a5 : Memref sig .tc .vmem S1x64 .f32) (h5 : a5.IsWhole)
  (a6 : Memref sig .tc .vmem S64x64 .f32) (h6 : a6.IsWhole)
  (a7 : Memref sig .tc .vmem S64x1 .f32) (h7 : a7.IsWhole)
  (a8 : Memref sig .tc .vmem S16x64 .f32) (h8 : a8.IsWhole)
  (a9 : Memref sig .tc .vmem S64x16 .f32) (h9 : a9.IsWhole)
  (a10 : Memref sig .tc .vmem S64x64 .f32) (h10 : a10.IsWhole)
  (a11 : Memref sig .tc .vmem S1x64 .f32) (h11 : a11.IsWhole)
  (a12 : Memref sig .tc .vmem S2x1 .f32) (h12 : a12.IsWhole)
  (a13 : Memref sig .tc .vmem S16x1 .f32) (h13 : a13.IsWhole)
  (a14 : Memref sig .tc .vmem S16x64 .f32) (h14 : a14.IsWhole)
  (x0 : Vec F S1x1x8192 .i32) (x1 : Vec F S64x8192 .f32) (x2 : Vec F S16x64 .f32) (x3 : Vec F S64x64 .f32) (x4 : Vec F S1x64 .f32) (x5 : Vec F S64x64 .f32) (x6 : Vec F S64x1 .f32)
variable (y0 : Vec F S64x16 .f32) (y1 : Vec F S64x64 .f32) (y2 : Vec F S1x64 .f32) (y3 : Vec F S2x1 .f32) (y4 : Vec F S16x1 .f32) (y5 : Vec F S16x64 .f32)

/-- First point: half of the transposed user queries. -/
theorem first_query (e0 : cond0_0 i) (e1 : ¬cond0_1 i) :
    (sout0_A_0 c i a1 h1 a2 h2 a3 h3 a4 h4 a5 h5 a6 h6 a7 h7 a8 h8 a9 h9 a10 h10 a11 h11 a12 h12 a13 h13 a14 h14 e0 e1 x0 x1 x2 x3 x4 x5 x6) = k0_pay7 x2 x3 x4 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 e0 e1 x0 x1 x2 x3 x4 x5 x6)]
  unfold kernelRun0_A
  dsimp only
  sl_unfold_words
  rw [View.canon_cons_unit_zero (S := S64x16) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

/-- First point: half of the transposed key weights. -/
theorem first_key (e0 : cond0_0 i) (e1 : ¬cond0_1 i) :
    (sout0_A_1 c i a1 h1 a2 h2 a3 h3 a4 h4 a5 h5 a6 h6 a7 h7 a8 h8 a9 h9 a10 h10 a11 h11 a12 h12 a13 h13 a14 h14 e0 e1 x0 x1 x2 x3 x4 x5 x6) = k0_pay8 x5 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 e0 e1 x0 x1 x2 x3 x4 x5 x6)]
  unfold kernelRun0_A
  dsimp only
  sl_unfold_words
  rw [View.canon_cons_unit_zero (S := S64x64) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

/-- First point: the score weights as a row. -/
theorem first_weights (e0 : cond0_0 i) (e1 : ¬cond0_1 i) :
    (sout0_A_2 c i a1 h1 a2 h2 a3 h3 a4 h4 a5 h5 a6 h6 a7 h7 a8 h8 a9 h9 a10 h10 a11 h11 a12 h12 a13 h13 a14 h14 e0 e1 x0 x1 x2 x3 x4 x5 x6) = k0_pay10 (k0_pay9 x6) := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 e0 e1 x0 x1 x2 x3 x4 x5 x6)]
  unfold kernelRun0_A
  dsimp only
  sl_unfold_words
  rw [View.canon_cons_unit_zero (S := S1x64) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

/-- First point: the common shift of the scores. -/
theorem first_shift (e0 : cond0_0 i) (e1 : ¬cond0_1 i) :
    row0 (sout0_A_3 c i a1 h1 a2 h2 a3 h3 a4 h4 a5 h5 a6 h6 a7 h7 a8 h8 a9 h9 a10 h10 a11 h11 a12 h12 a13 h13 a14 h14 e0 e1 x0 x1 x2 x3 x4 x5 x6) = k0_pay11 (k0_pay9 x6) := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 a14 h14 e0 e1 x0 x1 x2 x3 x4 x5 x6)]
  unfold kernelRun0_A
  dsimp only
  sl_unfold_words
  rw [row0_canon]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

/-- First point: the sum of the score weights. -/
theorem first_total (e0 : cond0_0 i) (e1 : ¬cond0_1 i) :
    row1 (sout0_A_3 c i a1 h1 a2 h2 a3 h3 a4 h4 a5 h5 a6 h6 a7 h7 a8 h8 a9 h9 a10 h10 a11 h11 a12 h12 a13 h13 a14 h14 e0 e1 x0 x1 x2 x3 x4 x5 x6) = k0_pay12 (k0_pay9 x6) := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 a14 h14 e0 e1 x0 x1 x2 x3 x4 x5 x6)]
  unfold kernelRun0_A
  dsimp only
  sl_unfold_words
  rw [row1_canon]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

/-- First point: the normalisers, from zero. -/
theorem first_norm (e0 : cond0_0 i) (e1 : ¬cond0_1 i) :
    (sout0_A_4 c i a1 h1 a2 h2 a3 h3 a4 h4 a5 h5 a6 h6 a7 h7 a8 h8 a9 h9 a10 h10 a11 h11 a12 h12 a13 h13 a14 h14 e0 e1 x0 x1 x2 x3 x4 x5 x6) = k0_pay3 k0_pay13 (k0_pay17 x1 x0 (k0_pay8 x5) (k0_pay7 x2 x3 x4) (k0_pay10 (k0_pay9 x6)) (k0_pay12 (k0_pay9 x6)) (k0_pay11 (k0_pay9 x6))) := by
  unfold sout0_A_4
  rw [View.read_writes_eq_canon _ _ _ (scover0_A_4 c i a1 h1 a2 h2 a3 h3 a4 h4 a5 h5 a6 h6 a7 h7 a8 h8 a9 h9 a10 h10 a11 h11 a12 h12 a13 h13 a14 h14 e0 e1 x0 x1 x2 x3 x4 x5 x6)]
  unfold kernelRun0_A
  dsimp only
  sl_unfold_words
  rw [View.canon_cons_unit_zero (S := S16x1) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]
  exact congrArg₂ (fun u v => k0_pay3 k0_pay13 (k0_pay17 x1 x0 (k0_pay8 x5) (k0_pay7 x2 x3 x4) (k0_pay10 (k0_pay9 x6)) u v))
    (readCov_row1 a12.view (k0_pay12 (k0_pay9 x6)) (k0_pay11 (k0_pay9 x6)))
    (readCov_row0 a12.view (k0_pay12 (k0_pay9 x6)) (k0_pay11 (k0_pay9 x6)))

/-- First point: the weighted sums of the features, from zero. -/
theorem first_acc (e0 : cond0_0 i) (e1 : ¬cond0_1 i) :
    (sout0_A_5 c i a1 h1 a2 h2 a3 h3 a4 h4 a5 h5 a6 h6 a7 h7 a8 h8 a9 h9 a10 h10 a11 h11 a12 h12 a13 h13 a14 h14 e0 e1 x0 x1 x2 x3 x4 x5 x6) = k0_pay4 (k0_pay15 x1) (k0_pay16 x1 x0 (k0_pay8 x5) (k0_pay7 x2 x3 x4) (k0_pay10 (k0_pay9 x6)) (k0_pay12 (k0_pay9 x6)) (k0_pay11 (k0_pay9 x6))) k0_pay14 := by
  unfold sout0_A_5
  rw [View.read_writes_eq_canon _ _ _ (scover0_A_5 c i a1 h1 a2 h2 a3 h3 a4 h4 a5 h5 a6 h6 a7 h7 a8 h8 a9 h9 a10 h10 a11 h11 a12 h12 a13 h13 a14 h14 e0 e1 x0 x1 x2 x3 x4 x5 x6)]
  unfold kernelRun0_A
  dsimp only
  sl_unfold_words
  rw [View.canon_cons_unit_zero (S := S16x64) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]
  exact congrArg₂ (fun u v => k0_pay4 (k0_pay15 x1) (k0_pay16 x1 x0 (k0_pay8 x5) (k0_pay7 x2 x3 x4) (k0_pay10 (k0_pay9 x6)) u v) k0_pay14)
    (readCov_row1 a12.view (k0_pay12 (k0_pay9 x6)) (k0_pay11 (k0_pay9 x6)))
    (readCov_row0 a12.view (k0_pay12 (k0_pay9 x6)) (k0_pay11 (k0_pay9 x6)))

/-- A point in the middle: the normalisers, added to what the point before left. -/
theorem mid_norm (e0 : ¬cond0_0 i) (e1 : ¬cond0_1 i) :
    (sout0_B_4 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5) = k0_pay3 y4 (k0_pay17 x1 x0 y1 y0 y2 (row1 y3) (row0 y3)) := by
  rw [← ld_row1 y3 inb_S2x1_S1x1_1_0, ← ld_row0 y3 inb_S2x1_S1x1_0_0]
  unfold sout0_B_4
  rw [View.read_writes_eq_canon _ _ _ (scover0_B_4 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5)]
  unfold kernelRun0_B
  dsimp only
  sl_unfold_words
  rw [View.canon_cons_unit_zero (S := S16x1) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

/-- A point in the middle: the weighted sums of the features, added to what the point before left. -/
theorem mid_acc (e0 : ¬cond0_0 i) (e1 : ¬cond0_1 i) :
    (sout0_B_5 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5) = k0_pay4 (k0_pay15 x1) (k0_pay16 x1 x0 y1 y0 y2 (row1 y3) (row0 y3)) y5 := by
  rw [← ld_row1 y3 inb_S2x1_S1x1_1_0, ← ld_row0 y3 inb_S2x1_S1x1_0_0]
  unfold sout0_B_5
  rw [View.read_writes_eq_canon _ _ _ (scover0_B_5 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5)]
  unfold kernelRun0_B
  dsimp only
  sl_unfold_words
  rw [View.canon_cons_unit_zero (S := S16x64) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

/-- Last point: the normalisers, added to what the point before left. -/
theorem last_norm (e0 : ¬cond0_0 i) (e1 : cond0_1 i) :
    (sout0_C_4 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5) = k0_pay3 y4 (k0_pay17 x1 x0 y1 y0 y2 (row1 y3) (row0 y3)) := by
  rw [← ld_row1 y3 inb_S2x1_S1x1_1_0, ← ld_row0 y3 inb_S2x1_S1x1_0_0]
  unfold sout0_C_4
  rw [View.read_writes_eq_canon _ _ _ (scover0_C_4 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5)]
  unfold kernelRun0_C
  dsimp only
  sl_unfold_words
  rw [View.canon_cons_unit_zero (S := S16x1) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

/-- Last point: the weighted sums of the features, added to what the point before left. -/
theorem last_acc (e0 : ¬cond0_0 i) (e1 : cond0_1 i) :
    (sout0_C_5 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5) = k0_pay4 (k0_pay15 x1) (k0_pay16 x1 x0 y1 y0 y2 (row1 y3) (row0 y3)) y5 := by
  rw [← ld_row1 y3 inb_S2x1_S1x1_1_0, ← ld_row0 y3 inb_S2x1_S1x1_0_0]
  unfold sout0_C_5
  rw [View.read_writes_eq_canon _ _ _ (scover0_C_5 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5)]
  unfold kernelRun0_C
  dsimp only
  sl_unfold_words
  rw [View.canon_cons_unit_zero (S := S16x64) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

/-- Last point: the result, the sums divided by the normalisers where these are positive. -/
theorem last_result (e0 : ¬cond0_0 i) (e1 : cond0_1 i) :
    (out0_C_7 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5) = k0_pay5 (k0_pay15 x1) (k0_pay16 x1 x0 y1 y0 y2 (row1 y3) (row0 y3)) y4 (k0_pay17 x1 x0 y1 y0 y2 (row1 y3) (row0 y3)) y5 := by
  rw [← ld_row1 y3 inb_S2x1_S1x1_1_0, ← ld_row0 y3 inb_S2x1_S1x1_0_0]
  unfold out0_C_7
  rw [View.read_writes_eq_canon _ _ _ (cover0_C_7 c i a1 h1 a2 h2 a3 h3 a4 h4 a5 h5 a6 h6 a7 h7 a8 h8 a9 h9 a10 h10 a11 h11 a12 h12 a13 h13 a14 h14 e0 e1 x0 x1 x2 x3 x4 x5 x6 y0 y1 y2 y3 y4 y5)]
  unfold kernelRun0_C
  dsimp only
  sl_unfold_words
  rw [View.canon_cons_unit_zero (S := S16x64) zeros2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S1x1x8192) zeros3, View.ld_unit_zero (S := S64x8192) zeros2, View.ld_unit_zero (S := S16x64) zeros2,
    View.ld_unit_zero (S := S64x64) zeros2, View.ld_unit_zero (S := S1x64) zeros2, View.ld_unit_zero (S := S64x1) zeros2,
    View.ld_unit_zero (S := S64x16) zeros2, View.ld_unit_zero (S := S16x1) zeros2,
    View.readCov_unit_zero (S := S16x64) _ zeros2, View.readCov_unit_zero (S := S64x64) _ zeros2,
    View.readCov_unit_zero (S := S1x64) _ zeros2, View.readCov_unit_zero (S := S64x16) _ zeros2,
    View.readCov_unit_zero (S := S16x1) _ zeros2]

end Readout.Cases

end
-- ==== Proof.Readout.Fold.lean ====
/- The four points in sequence: the result array as the kernel's own arithmetic on the blocks that its points read. -/
module

public import proofs.«01_k».proof.Proof.Readout.Cases

@[expose] public section

set_option maxRecDepth 16384

noncomputable section

namespace Readout.Fold

open Cert.KernelIdeal Cert.KernelIdeal.Gen Idealize.ShloMosaic Idealize.ShloMosaic.TcCoe Idealize.SL Idealize.SL.Sem
open Readout.Cases

variable {F : FTy → Type} [FloatOps F]
variable (m : (ℓ : Loc nD τ sig) → Buf (Elt F) ℓ) (c : Dev nD)

/-- The grid has four points. -/
theorem lt_N {n : ℕ} (h : n < 4) : n < cfg0.N := lt_of_lt_of_eq h (show cfg0.N = 4 from N_0).symm

/-- The first point. -/
abbrev p0 : Fin cfg0.N := ⟨0, lt_N (by decide)⟩

/-- Half of the user queries, transposed. -/
def query : Vec F S64x16 .f32 := k0_pay7 (iblk m c 2 p0) (iblk m c 3 p0) (iblk m c 4 p0)
/-- Half of the key weights, transposed. -/
def keyw : Vec F S64x64 .f32 := k0_pay8 (iblk m c 5 p0)
/-- The score weights as a row. -/
def weights : Vec F S1x64 .f32 := k0_pay10 (k0_pay9 (iblk m c 6 p0))
/-- The sum of the score weights. -/
def total : Vec F S1x1 .f32 := k0_pay12 (k0_pay9 (iblk m c 6 p0))
/-- The common shift of the scores. -/
def shift : Vec F S1x1 .f32 := k0_pay11 (k0_pay9 (iblk m c 6 p0))

/-- The exponentials of block `t`, one row for each segment, zero off the segment. -/
def weighted (t : Fin cfg0.N) : Vec F S16x8192 .f32 :=
  k0_pay16 (iblk m c 1 t) (iblk m c 0 t) (keyw m c) (query m c) (weights m c) (total m c) (shift m c)
/-- Their row sums. -/
def rowSums (t : Fin cfg0.N) : Vec F S16x1 .f32 :=
  k0_pay17 (iblk m c 1 t) (iblk m c 0 t) (keyw m c) (query m c) (weights m c) (total m c) (shift m c)

/-- The normalisers after point `n`. -/
def norm : (n : ℕ) → n < cfg0.N → Vec F S16x1 .f32
  | 0, h => k0_pay3 k0_pay13 (rowSums m c ⟨0, h⟩)
  | n + 1, h => k0_pay3 (norm n (Nat.lt_of_succ_lt h)) (rowSums m c ⟨n + 1, h⟩)

/-- The weighted sums of the features after point `n`. -/
def acc : (n : ℕ) → n < cfg0.N → Vec F S16x64 .f32
  | 0, h => k0_pay4 (k0_pay15 (iblk m c 1 ⟨0, h⟩)) (weighted m c ⟨0, h⟩) k0_pay14
  | n + 1, h => k0_pay4 (k0_pay15 (iblk m c 1 ⟨n + 1, h⟩)) (weighted m c ⟨n + 1, h⟩) (acc n (Nat.lt_of_succ_lt h))

/-- What the scratch holds after point `n`. -/
structure Holds (n : ℕ) (h : n < cfg0.N) : Prop where
  query : (outsAt0 m c n h).2.1 = query m c
  keyw : (outsAt0 m c n h).2.2.1 = keyw m c
  weights : (outsAt0 m c n h).2.2.2.1 = weights m c
  shift : row0 (outsAt0 m c n h).2.2.2.2.1 = shift m c
  total : row1 (outsAt0 m c n h).2.2.2.2.1 = total m c
  norm : (outsAt0 m c n h).2.2.2.2.2.1 = norm m c n h
  acc : (outsAt0 m c n h).2.2.2.2.2.2 = acc m c n h

/-- The first point fills the scratch. -/
theorem holds_first (h : 0 < cfg0.N) : Holds m c 0 h := by
  have e := outsAt0_A m c ⟨0, h⟩ (Nat.zero_mod _) (by dsimp only; omega)
  dsimp only at e
  constructor <;> rw [e] <;> dsimp only
  · rw [first_query]; rfl
  · rw [first_key]; rfl
  · rw [first_weights]; rfl
  · rw [first_shift]; rfl
  · rw [first_total]; rfl
  · rw [first_norm]; rfl
  · rw [first_acc]; rfl

/-- A point in the middle adds its block. -/
theorem holds_mid (n : ℕ) (h : n + 1 < cfg0.N) (hn : n + 1 < 3) (ih : Holds m c n (Nat.lt_of_succ_lt h)) :
    Holds m c (n + 1) h := by
  have e := outsAt0_B m c ⟨n + 1, h⟩ (by dsimp only; omega) (by dsimp only; omega)
  dsimp only at e
  have e' : n + 1 - 1 = n := rfl
  obtain ⟨q, k, w, s, t, a, b⟩ := ih
  constructor <;> rw [e] <;> dsimp only
  · exact q
  · exact k
  · exact w
  · exact s
  · exact t
  · rw [mid_norm]
    simp only [e', q, k, w, s, t, a]
    rfl
  · rw [mid_acc]
    simp only [e', q, k, w, s, t, b]
    rfl

/-- After each of the first three points. -/
theorem holds : ∀ (n : ℕ) (h : n < cfg0.N), n < 3 → Holds m c n h
  | 0, h, _ => holds_first m c h
  | n + 1, h, hn => holds_mid m c n h hn (holds n (Nat.lt_of_succ_lt h) (by omega))

/-- THE RESULT ARRAY: what the last point writes, from the scratch after the third. -/
theorem result_eq : Cert.KernelIdeal.Value.G7 m c
    = k0_pay5 (k0_pay15 (iblk m c 1 ⟨3, lt_N (by decide)⟩)) (weighted m c ⟨3, lt_N (by decide)⟩)
        (norm m c 2 (lt_N (by decide))) (rowSums m c ⟨3, lt_N (by decide)⟩) (acc m c 2 (lt_N (by decide))) := by
  have h3 : 3 < cfg0.N := lt_N (by decide)
  have e := outsAt0_C m c ⟨3, h3⟩ (by dsimp only; omega) (by dsimp only)
  dsimp only at e
  have e' : 3 - 1 = 2 := rfl
  obtain ⟨q, k, w, s, t, a, b⟩ := holds m c 2 (lt_N (by decide)) (by decide)
  rw [Cert.KernelIdeal.Value.G7_last, ← Cert.KernelIdeal.Value.outsAt0_sweep m c 3 h3, e]
  dsimp only
  rw [last_result]
  simp only [e', q, k, w, s, t, a, b]
  rfl

end Readout.Fold

end
-- ==== Proof.Readout.Kernel.lean ====
/- The kernel's result array, from any memory whose arguments hold the inputs: the readout by one common shift. -/
module

public import proofs.«01_k».proof.Proof.Readout.Scores
public import proofs.«01_k».proof.Proof.Readout.Payload
public import proofs.«01_k».proof.Proof.Readout.Blocks
public import proofs.«01_k».proof.Proof.Readout.Fold

@[expose] public section

set_option maxRecDepth 16384

noncomputable section

namespace Readout.Kernel

open Cert.KernelIdeal Cert.KernelIdeal.Gen Idealize.ShloMosaic Idealize.ShloMosaic.TcCoe Idealize.SL Idealize.SL.Sem
open Readout.Payload Readout.Blocks Readout.Fold

/-- A sum over the nodes, block by block. -/
theorem sum_blocks (f : Fin 32768 → EReal) :
    (∑ n, f n) = (∑ j, f (node 0 j)) + (∑ j, f (node 1 j)) + (∑ j, f (node 2 j)) + ∑ j, f (node 3 j) := by
  have h : (∑ n, f n) = ∑ p : Fin 4 × Fin 8192, f (node p.1 p.2) :=
    (Fintype.sum_equiv (finProdFinEquiv (m := 4) (n := 8192)) (fun p => f (node p.1 p.2)) f fun p =>
      congrArg f (Fin.ext (by show 8192 * p.1.val + p.2.val = p.2.val + 8192 * p.1.val; omega))).symm
  rw [h, Fintype.sum_prod_type, Fin.sum_univ_four]

/-- Half of a sum of two. -/
theorem half_add (x y : EReal) : ((1 / 2 : ℝ) : EReal) * (x + y) = ((1 / 2 : ℝ) : EReal) * x + ((1 / 2 : ℝ) : EReal) * y :=
  EReal.left_distrib_of_nonneg_of_ne_top (EReal.coe_nonneg.mpr (by norm_num)) (EReal.coe_ne_top _) _ _

variable (D : Data) (m : (ℓ : Loc nD τ sig) → Buf (Elt Ideal) ℓ) (c : Dev nD)

/-- The arguments of the memory hold the inputs. -/
abbrev Holds : Prop :=
  D.Held (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable {D m c}

/-- The stored queries are half of the queries. -/
theorem query_half (h : Holds D m c) (d : Fin 64) (s : Fin 16) :
    Fold.query m c (ix2 d s) = ((1 / 2 : ℝ) : EReal) * D.query s d := by
  refine (query_apply _ _ _ d s).trans (congrArg _ ?_)
  rw [show iblk m c 2 p0 = _ from user_block m c, show iblk m c 3 p0 = _ from userw_block m c]
  refine congrArg₂ _ (Finset.sum_congr rfl fun k _ => ?_) ((bias_block m c d).trans (h.bias d))
  rw [h.users, h.userw]

/-- The stored key weights are half of the key weights. -/
theorem keyw_half (h : Holds D m c) (d k : Fin 64) : Fold.keyw m c (ix2 d k) = ((1 / 2 : ℝ) : EReal) * D.keyw k d := by
  refine (keyw_apply _ k d).trans (congrArg _ ?_)
  rw [show iblk m c 5 p0 = _ from keyw_block m c]
  exact h.keyw k d

/-- The row of score weights. -/
theorem weights_row (h : Holds D m c) (d : Fin 64) : k0_pay9 (iblk m c 6 p0) (ix2 0 d) = (D.scorew d : EReal) := by
  refine (weights_apply _ d).trans ?_
  rw [show iblk m c 6 p0 = _ from scorew_block m c]
  exact h.scorew d

/-- The stored score weights. -/
theorem weights_real (h : Holds D m c) (d : Fin 64) : Fold.weights m c (ix2 0 d) = (D.scorew d : EReal) :=
  (weights_stored _ d).trans (weights_row h d)

/-- The stored sum of the score weights. -/
theorem total_real (h : Holds D m c) : Fold.total m c (ix2 0 0) = ∑ d, (D.scorew d : EReal) :=
  (total_apply _).trans (Finset.sum_congr rfl fun d _ => weights_row h d)

/-- The stored shift. -/
theorem shift_real (h : Holds D m c) : Fold.shift m c (ix2 0 0) = (D.shift : EReal) := by
  refine (shift_apply _).trans ?_
  rw [Data.shift, coe_sum]
  refine Finset.sum_congr rfl fun d _ => ?_
  rw [weights_row h, ← EReal.coe_zero]
  exact (EReal.coe_strictMono.monotone.map_max).symm

/-- An entry of a weighted block: the shifted exponential in the node's own row, zero elsewhere. -/
theorem weighted_real (h : Holds D m c) (t : Fin 4) (b : Fin 16) (j : Fin 8192) :
    Fold.weighted m c (point t) (ix2 b j)
      = if D.Member b (node t j) then (Real.exp (D.score b (node t j) - D.shift) : EReal) else 0 := by
  refine (weighted_apply _ _ _ _ _ _ _ b j).trans ?_
  rw [(seg_block m c t j).trans (h.seg _)]
  refine if_congr Iff.rfl ?_ rfl
  have hz : ∀ d : Fin 64,
      (∑ k : Fin 64, Fold.keyw m c (ix2 d k) * (iblk m c 1 (point t) : Vec Ideal S64x8192 .f32) (ix2 k j)) + Fold.query m c (ix2 d b)
        = ((1 / 2 : ℝ) : EReal) * (D.query b d + D.key (node t j) d) := by
    intro d
    rw [query_half h, add_comm (D.query _ _), half_add, Data.key, mul_sum_coe _ (by norm_num)]
    refine congrArg (· + _) (Finset.sum_congr rfl fun k _ => ?_)
    rw [keyw_half h, feat_block m c, h.feats, mul_assoc, mul_comm (D.keyw k d)]
  rw [total_real h, shift_real h]
  simp only [weights_real h, hz]
  rw [score_eq, ← EReal.coe_sub, Ideal.exp_coe]
  rfl

/-- The row sums of a block. -/
theorem rowSums_real (h : Holds D m c) (t : Fin 4) (b : Fin 16) :
    Fold.rowSums m c (point t) (ix2 b 0)
      = ∑ j, if D.Member b (node t j) then (Real.exp (D.score b (node t j) - D.shift) : EReal) else 0 :=
  (rowSums_apply _ _ _ _ _ _ _ b).trans (Finset.sum_congr rfl fun j _ => weighted_real h t b j)

/-- The weighted feature sums of a block. -/
theorem featSums_real (h : Holds D m c) (t : Fin 4) (b : Fin 16) (d : Fin 64) :
    (∑ j : Fin 8192, Fold.weighted m c (point t) (ix2 b j) * (iblk m c 1 (point t) : Vec Ideal S64x8192 .f32) (ix2 d j))
      = ∑ j, if D.Member b (node t j) then (Real.exp (D.score b (node t j) - D.shift) : EReal) * D.feats (node t j) d else 0 := by
  refine Finset.sum_congr rfl fun j _ => ?_
  rw [weighted_real h, feat_block m c, h.feats, ite_mul, zero_mul]

/-- After the last block the normalizer is the sum over the segment. -/
theorem norm_real (h : Holds D m c) (b : Fin 16) :
    Fold.norm m c 2 (lt_N (by decide)) (ix2 b 0) + Fold.rowSums m c (point 3) (ix2 b 0)
      = ∑ n ∈ D.nodes b, (Real.exp (D.score b n - D.shift) : EReal) := by
  have h0 : Fold.norm m c 0 (lt_N (by decide)) (ix2 b 0) = Fold.rowSums m c (point 0) (ix2 b 0) :=
    (norm_step _ _ b).trans (by rw [norm_zero, zero_add]; rfl)
  have h1 : Fold.norm m c 1 (lt_N (by decide)) (ix2 b 0) = _ + Fold.rowSums m c (point 1) (ix2 b 0) := norm_step _ _ b
  have h2 : Fold.norm m c 2 (lt_N (by decide)) (ix2 b 0) = _ + Fold.rowSums m c (point 2) (ix2 b 0) := norm_step _ _ b
  rw [h2, h1, h0]
  simp only [rowSums_real h]
  rw [Data.nodes, Finset.sum_filter, sum_blocks]

/-- After the last block the accumulator is the weighted sum of the features over the segment. -/
theorem acc_real (h : Holds D m c) (b : Fin 16) (d : Fin 64) :
    Fold.acc m c 2 (lt_N (by decide)) (ix2 b d)
        + (∑ j : Fin 8192, Fold.weighted m c (point 3) (ix2 b j) * (iblk m c 1 (point 3) : Vec Ideal S64x8192 .f32) (ix2 d j))
      = ∑ n ∈ D.nodes b, (Real.exp (D.score b n - D.shift) : EReal) * D.feats n d := by
  have h0 : Fold.acc m c 0 (lt_N (by decide)) (ix2 b d) = _ :=
    (acc_step _ _ _ b d).trans ((congrArg₂ _ (acc_zero b d) (featSums_real h 0 b d)).trans (zero_add _))
  have h1 : Fold.acc m c 1 (lt_N (by decide)) (ix2 b d) = _ :=
    (acc_step _ _ _ b d).trans (congrArg₂ _ h0 (featSums_real h 1 b d))
  have h2 : Fold.acc m c 2 (lt_N (by decide)) (ix2 b d) = _ :=
    (acc_step _ _ _ b d).trans (congrArg₂ _ h1 (featSums_real h 2 b d))
  rw [h2, featSums_real h, Data.nodes, Finset.sum_filter, sum_blocks]

/-- The kernel's result array is the shifted readout. -/
theorem result (h : Holds D m c) (b : Fin 16) (d : Fin 64) :
    (Cert.KernelIdeal.Value.G7 m c : Vec Ideal S16x64 .f32) (ix2 b d) = D.shifted b d := by
  rw [Fold.result_eq]
  refine (result_apply _ _ _ _ _ b d).trans ?_
  have hn := norm_real h b
  have ha := acc_real h b d
  unfold Data.shifted
  rw [← hn, ← ha]
  rfl

end Readout.Kernel
-- ==== Proof.Readout.Rows.lean ====
/- A row-wise accumulation over the nodes: where each update of the reference's two scatters lands, and the sum that
   each entry of the result is. -/
module

public import Idealize.ShloMosaic.Lib.Pointwise
public import Idealize.ShloMosaic.Lib.Routing.OpsPair
public import proofs.«01_k».proof.ReferenceIdeal
public import proofs.«01_k».proof.Proof.Readout.Scores
public import proofs.«01_k».proof.Proof.Gen.ReferenceIdeal.Read

@[expose] public section

set_option maxRecDepth 16384

noncomputable section

namespace Readout.Rows

open Cert.ReferenceIdeal Cert.ReferenceIdeal.Gen Idealize.ShloMosaic

/-- A word reads, signed, as a segment number exactly when it is that number's word. -/
theorem toInt_word (v : BitVec 32) (s : Fin 16) : v.toInt = (s.val : Int) ↔ v = BitVec.ofNat 32 s.val := by
  rw [show (s.val : Int) = (BitVec.ofNat 32 s.val).toInt by revert s; decide]
  exact BitVec.toInt_inj

/-- An accumulating scatter that adds row `n` of the updates to the row its node's segment id names, if any, of an array of zeros: entry `(b, e)` is the
    sum of column `e` over the nodes of segment `b`. -/
theorem scatter_rows {C : ℕ} (D : Data) (g : ScatterDims (⟨2, ![16, C]⟩ : Shape) (⟨2, ![32768, 1]⟩ : Shape) (⟨2, ![32768, C]⟩ : Shape))
    (x : (⟨2, ![16, C]⟩ : Shape).Idx → EReal) (idx : IVec (⟨2, ![32768, 1]⟩ : Shape) 32) (upd : (⟨2, ![32768, C]⟩ : Shape).Idx → EReal)
    (hrow : ∀ n e, g.start (ix2 n e) idx 0 + (g.window (ix2 n e) 0 : Int) = (idx (ix2 n 0)).toInt)
    (hcol : ∀ n e, g.start (ix2 n e) idx 1 + (g.window (ix2 n e) 1 : Int) = (e.val : Int))
    (hx : ∀ i, x i = 0) (hidx : ∀ n, idx (ix2 n 0) = D.seg n) (b : Fin 16) (e : Fin C) :
    Ideal.hostScatterAdd g x idx upd (ix2 b e) = ∑ n ∈ D.nodes b, upd (ix2 n e) := by
  have hland : ∀ (n : Fin 32768) (f : Fin C), (g.resultIdx? (ix2 n f) idx = some (ix2 b e)) ↔ (D.Member b n ∧ f = e) := by
    intro n f
    refine (Routing.resultIdx?_ix2 g (ix2 n f) idx b e).trans ?_
    rw [hrow, hcol, hidx, toInt_word, Fin.ext_iff, Int.natCast_inj]
  unfold Ideal.hostScatterAdd
  rw [hx, zero_add, Finset.sum_filter, sum_idx2, Data.nodes, Finset.sum_filter]
  refine Finset.sum_congr rfl fun n _ => ?_
  simp only [hland]
  by_cases h : D.Member b n
  · simp only [show D.Member b n = True from eq_true h, true_and, if_true]
    rw [Finset.sum_ite_eq' Finset.univ e, if_pos (Finset.mem_univ e)]
  · simp only [show D.Member b n = False from eq_false h, false_and, if_false, Finset.sum_const_zero]

/-- The index array of a scatter reads its node's own word. -/
theorem wide_start (idx : IVec S32768x1 32) (n : Fin 32768) (e : Fin 64) :
    scatter_S16x64_S32768x1_S32768x64_1_0_0_1.start (ix2 n e) idx 0
      + (scatter_S16x64_S32768x1_S32768x64_1_0_0_1.window (ix2 n e) 0 : Int) = (idx (ix2 n 0)).toInt := by
  refine (add_zero _).trans (congrArg (fun i => (idx i).toInt) (funext fun a => ?_))
  match a with
  | ⟨0, _⟩ => exact Fin.ext rfl
  | ⟨1, _⟩ => exact Fin.ext rfl

/-- The same of the scatter of one column. -/
theorem narrow_start (idx : IVec S32768x1 32) (n : Fin 32768) (e : Fin 1) :
    scatter_S16x1_S32768x1_S32768x1_1_0_0_1.start (ix2 n e) idx 0
      + (scatter_S16x1_S32768x1_S32768x1_1_0_0_1.window (ix2 n e) 0 : Int) = (idx (ix2 n 0)).toInt := by
  refine (add_zero _).trans (congrArg (fun i => (idx i).toInt) (funext fun a => ?_))
  match a with
  | ⟨0, _⟩ => exact Fin.ext rfl
  | ⟨1, _⟩ => exact Fin.ext rfl

/-- The reference's scatter of feature rows. -/
theorem scatter_wide (D : Data) (x : S16x64.Idx → EReal) (idx : IVec S32768x1 32) (upd : S32768x64.Idx → EReal) (hx : ∀ i, x i = 0)
    (hidx : ∀ n, idx (ix2 n 0) = D.seg n) (b : Fin 16) (e : Fin 64) :
    Host.scatterAdd (F := Ideal) (φ := .f32) scatter_S16x64_S32768x1_S32768x64_1_0_0_1 x idx upd (ix2 b e) = ∑ n ∈ D.nodes b, upd (ix2 n e) :=
  scatter_rows D scatter_S16x64_S32768x1_S32768x64_1_0_0_1 x idx upd (wide_start idx) (fun _ _ => zero_add _) hx hidx b e

/-- The reference's scatter of one column. -/
theorem scatter_narrow (D : Data) (x : S16x1.Idx → EReal) (idx : IVec S32768x1 32) (upd : S32768x1.Idx → EReal) (hx : ∀ i, x i = 0)
    (hidx : ∀ n, idx (ix2 n 0) = D.seg n) (b : Fin 16) (e : Fin 1) :
    Host.scatterAdd (F := Ideal) (φ := .f32) scatter_S16x1_S32768x1_S32768x1_1_0_0_1 x idx upd (ix2 b e) = ∑ n ∈ D.nodes b, upd (ix2 n e) :=
  scatter_rows D scatter_S16x1_S32768x1_S32768x1_1_0_0_1 x idx upd (narrow_start idx) (fun _ _ => zero_add _) hx hidx b e

end Readout.Rows
-- ==== Proof.Readout.Reference.lean ====
/- The reference's result array, from arguments that hold the inputs: the readout by the softmax of each segment. -/
module

public import Idealize.ShloMosaic.Lib.Pointwise
public import Idealize.ShloMosaic.Lib.Routing.OpsPair
public import Idealize.ShloMosaic.Lib.Routing.Ops
public import Idealize.ShloMosaic.Lib.ReduceAll
public import proofs.«01_k».proof.Proof.Gen.ReferenceIdeal.Read
public import proofs.«01_k».proof.Proof.Readout.Rows

@[expose] public section

set_option maxRecDepth 16384

noncomputable section

namespace Readout.Reference

open Cert.ReferenceIdeal Cert.ReferenceIdeal.Gen Cert.ReferenceIdeal.Read Idealize.ShloMosaic

/-- The constant minus infinity. -/
theorem minus_inf : Ideal.ofBits .f32 4286578688#32 = ⊥ := by
  simp [Ideal.ofBits, Ideal.ieee]

/-- A selection by a true bit. -/
theorem select_one {α : Type} (a b : α) : Scalar.select 1#1 a b = a := rfl

/-- A selection by equality of two words. -/
theorem select_eq {α : Type} (v w : BitVec 32) (a b : α) : Scalar.select (IntOp.cmpi .eq v w) a b = if v = w then a else b := by
  by_cases h : v = w
  · subst h; simp [IntOp.cmpi, Scalar.select]
  · rw [if_neg h, show IntOp.cmpi .eq v w = BitVec.ofBool (v == w) from rfl, beq_eq_false_iff_ne.mpr h]
    rfl

/-- A segment number is not wrapped: it is not negative. -/
theorem word_wrap (s : Fin 16) (a : BitVec 32) :
    Scalar.select (IntOp.cmpi .slt (BitVec.ofNat 32 s.val) 0#32) a (BitVec.ofNat 32 s.val) = BitVec.ofNat 32 s.val :=
  Routing.wrap_of_lt _ _ (by revert s; decide)

/-- A segment number is in range. -/
theorem word_range (s : Fin 16) :
    IntOp.andi (IntOp.cmpi .sge (BitVec.ofNat 32 s.val) 0#32) (IntOp.cmpi .sle (BitVec.ofNat 32 s.val) 15#32) = 1#1 := by
  revert s; decide

variable {D : Data}
variable {x0 : (⟨S32768x64, .f32⟩ : BufTy).Contents (Elt Ideal)} {x1 : (⟨S16x64, .f32⟩ : BufTy).Contents (Elt Ideal)}
  {x2 : (⟨S32768, .i32⟩ : BufTy).Contents (Elt Ideal)} {x3 : (⟨S64x64, .f32⟩ : BufTy).Contents (Elt Ideal)}
  {x4 : (⟨S64, .f32⟩ : BufTy).Contents (Elt Ideal)} {x5 : (⟨S64x64, .f32⟩ : BufTy).Contents (Elt Ideal)}
  {x6 : (⟨S64x1, .f32⟩ : BufTy).Contents (Elt Ideal)}

/-- The queries. -/
theorem query_at (h : D.Held x0 x1 x2 x3 x4 x5 x6) (s : Fin 16) (d : Fin 64) :
    val_main_v4 (F := Ideal) x1 x3 x4 (ix2 s d) = D.query s d := by
  pointwise [Read.val_main_v4, Read.val_main_v1, Read.val_main_v2, Read.val_main_v3]
  simp only [h.users, h.userw, h.bias]
  rfl

/-- The keys. -/
theorem key_at (h : D.Held x0 x1 x2 x3 x4 x5 x6) (n : Fin 32768) (d : Fin 64) :
    val_main_v0 (F := Ideal) x0 x5 (ix2 n d) = D.key n d := by
  pointwise [Read.val_main_v0]
  simp only [h.feats, h.keyw]
  rfl

/-- The index that a take reads with, at a node of segment `s`: the segment's number. -/
theorem index_at (h : D.Held x0 x1 x2 x3 x4 x5 x6) {s : Fin 16} {n : Fin 32768} (hn : D.Member s n) :
    val_main_call0_v5 (F := Ideal) x2 (ix2 n 0) = BitVec.ofNat 32 s.val := by
  pointwise [Read.val_main_call0_v5, Read.val_main_call0_v4, Read.val_main_call0_v1, Read.val_main_call0_v0, Read.val_main_call0_c]
  rw [h.seg, hn]
  exact word_wrap _ _

/-- A conjunction over one axis is true at a position whose operands are. -/
theorem conjunction_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, h.drop i = j → x i = 1#1) : Host.reduce IntOp.andi x init h hu j = 1#1 := by
  rw [Host.reduce_eq_foldl]
  exact IntOp.foldl_andi_one x _ _ hi fun i hm => hx i (of_decide_eq_true (List.mem_filter.mp hm).2)

/-- The take's mask is true at a node of a segment. -/
theorem mask_at (h : D.Held x0 x1 x2 x3 x4 x5 x6) {s : Fin 16} {n : Fin 32768} (hn : D.Member s n) :
    val_main_call0_v12 (F := Ideal) x2 (ix1 n) = 1#1 := by
  refine conjunction_one _ _ _ _ _ rfl fun i hi => ?_
  idx_vars i
  obtain rfl : i0 = n := congrFun hi 0
  pointwise [Read.val_main_call0_v11, Read.val_main_call0_v10, Read.val_main_call0_v9, Read.val_main_call0_v8, Read.val_main_call0_v7,
    Read.val_main_call0_v6, Read.val_main_call0_c_1, Read.val_main_call0_c_2]
  rw [Fin.fin_one_eq_zero i1, index_at h hn]
  exact word_range _

/-- The taken queries. -/
theorem taken_query (h : D.Held x0 x1 x2 x3 x4 x5 x6) {s : Fin 16} {n : Fin 32768} (hn : D.Member s n) (d : Fin 64) :
    val_main_call0_v13 (F := Ideal) x1 x2 x3 x4 (ix2 n d) = D.query s d :=
  (Routing.gather_row gather_S16x64_S32768x1_S32768x64_1_0_n_n_0_1_164 rfl rfl rfl rfl rfl _ _ n d s (index_at h hn) (by decide)).trans
    (query_at h _ _)

/-- The logistic function of query plus key. -/
theorem gate_at (h : D.Held x0 x1 x2 x3 x4 x5 x6) {s : Fin 16} {n : Fin 32768} (hn : D.Member s n) (d : Fin 64) :
    val_main_v12 (F := Ideal) x0 x1 x2 x3 x4 x5 (ix2 n d) = Ideal.logistic (D.query s d + D.key n d) := by
  pointwise [Read.val_main_v5, Read.val_main_v6, Read.val_main_v7, Read.val_main_v8, Read.val_main_v9, Read.val_main_v10, Read.val_main_v11,
    Read.val_main_v12, Read.val_main_cst, Read.val_main_cst_0, Read.val_main_call0_v14]
  rw [mask_at h hn, select_one, taken_query h hn, key_at h]
  rfl

/-- The scores. -/
theorem score_at (h : D.Held x0 x1 x2 x3 x4 x5 x6) {s : Fin 16} {n : Fin 32768} (hn : D.Member s n) :
    val_main_v13 (F := Ideal) x0 x1 x2 x3 x4 x5 x6 (ix2 n 0) = (D.score s n : EReal) := by
  pointwise [Read.val_main_v13]
  simp only [gate_at h hn, h.scorew]
  exact score_logistic D.scorew fun d => D.query s d + D.key n d

/-- The largest score of a segment. -/
theorem largest_at (h : D.Held x0 x1 x2 x3 x4 x5 x6) (b : Fin 16) (e : Fin 1) :
    val_main_v22 (F := Ideal) x0 x1 x2 x3 x4 x5 x6 (ix2 b e) = D.largest b := by
  have hs : ∀ n, (if D.Member b n then val_main_v13 (F := Ideal) x0 x1 x2 x3 x4 x5 x6 (ix2 n 0) else (⊥ : EReal))
      = if D.Member b n then (D.score b n : EReal) else ⊥ := fun n => by
    split
    · exact score_at h (by assumption)
    · rfl
  pointwise [Read.val_main_v22, Read.val_main_v21, Read.val_main_v20, Read.val_main_v19, Read.val_main_v18, Read.val_main_v17,
    Read.val_main_v16, Read.val_main_v15, Read.val_main_v14, Read.val_main_cst_1, Read.val_main_cst_2, Read.val_main_call1_v0,
    Read.val_main_call1_v1, Read.val_main_call1_v2]
  simp only [select_eq, h.seg, minus_inf]
  simp only [id, constant, Ideal.ofBits_def, minus_inf]
  simp only [hs]
  rfl

/-- The exponentials. -/
theorem exp_at (h : D.Held x0 x1 x2 x3 x4 x5 x6) {s : Fin 16} {n : Fin 32768} (hn : D.Member s n) :
    val_main_v25 (F := Ideal) x0 x1 x2 x3 x4 x5 x6 (ix2 n 0) = Ideal.exp ((D.score s n : EReal) - D.largest s) := by
  have hm : val_main_call2_v12 (F := Ideal) x2 (ix1 n) = 1#1 := mask_at h hn
  have ht : val_main_call2_v13 (F := Ideal) x0 x1 x2 x3 x4 x5 x6 (ix2 n 0) = D.largest s :=
    (Routing.gather_row gather_S16x1_S32768x1_S32768x1_1_0_n_n_0_1_11 rfl rfl rfl rfl rfl _ _ n 0 s (index_at h hn) (by decide)).trans
      (largest_at h _ _)
  pointwise [Read.val_main_v25, Read.val_main_v24, Read.val_main_v23, Read.val_main_call2_v14]
  rw [hm, select_one, ht, score_at h hn]

/-- The sum of a segment's exponentials. -/
theorem sum_at (h : D.Held x0 x1 x2 x3 x4 x5 x6) (b : Fin 16) :
    val_main_v28 (F := Ideal) x0 x1 x2 x3 x4 x5 x6 (ix2 b 0)
      = ∑ k ∈ D.nodes b, Ideal.exp ((D.score b k : EReal) - D.largest b) := by
  refine (Rows.scatter_narrow D _ _ _ (fun i => ?_) (fun n => ?_) b 0).trans (Finset.sum_congr rfl fun k hk => ?_)
  · exact Ideal.ofBits_zero_f32
  · pointwise [Read.val_main_v27]
    exact h.seg n
  · exact exp_at h (Finset.mem_filter.mp hk).2

/-- The weighted features. -/
theorem weighted_at (h : D.Held x0 x1 x2 x3 x4 x5 x6) {s : Fin 16} {n : Fin 32768} (hn : D.Member s n) (d : Fin 64) :
    val_main_v32 (F := Ideal) x0 x1 x2 x3 x4 x5 x6 (ix2 n d)
      = Ideal.div (Ideal.exp ((D.score s n : EReal) - D.largest s))
          (∑ k ∈ D.nodes s, Ideal.exp ((D.score s k : EReal) - D.largest s)) * D.feats n d := by
  have hm : val_main_call3_v12 (F := Ideal) x2 (ix1 n) = 1#1 := mask_at h hn
  have ht : val_main_call3_v13 (F := Ideal) x0 x1 x2 x3 x4 x5 x6 (ix2 n 0) = _ :=
    (Routing.gather_row gather_S16x1_S32768x1_S32768x1_1_0_n_n_0_1_11 rfl rfl rfl rfl rfl _ _ n 0 s (index_at h hn) (by decide)).trans
      (sum_at h _)
  pointwise [Read.val_main_v32, Read.val_main_v31, Read.val_main_v30, Read.val_main_v29, Read.val_main_call3_v14]
  rw [hm, select_one, ht, exp_at h hn, h.feats]

/-- The reference's result array is the softmax readout. -/
theorem result (h : D.Held x0 x1 x2 x3 x4 x5 x6) (b : Fin 16) (d : Fin 64) :
    val_main_v35 (F := Ideal) x0 x1 x2 x3 x4 x5 x6 (ix2 b d) = D.softmax b d := by
  refine (Rows.scatter_wide D _ _ _ (fun i => ?_) (fun n => ?_) b d).trans (Finset.sum_congr rfl fun n hn => ?_)
  · exact Ideal.ofBits_zero_f32
  · pointwise [Read.val_main_v34]
    exact h.seg n
  · exact weighted_at h (Finset.mem_filter.mp hn).2 d

end Readout.Reference
-- ==== Proof.Readout.Domain.lean ====
/- What the precondition says of the arguments, and the inputs read off arguments that meet it. -/
module

public import proofs.«01_k».proof.Proof.Readout.Scores
public import proofs.«01_k».proof.Proof.Gen.Pre_finite_score_weights
public import Idealize.ShloMosaic.Lib.ReduceAll

@[expose] public section

noncomputable section

namespace Readout.Domain

open Cert.Pre_finite_score_weights Cert.Pre_finite_score_weights.Gen Idealize.ShloMosaic

/-- An extended real of absolute value below top is a real. -/
theorem coe_toReal {x : EReal} (h : max x (-x) < ⊤) : (x.toReal : EReal) = x := by
  refine EReal.coe_toReal (ne_of_lt (lt_of_le_of_lt (le_max_left _ _) h)) fun e => ?_
  rw [e, EReal.neg_bot, max_eq_right bot_le] at h
  exact lt_irrefl _ h

/-- The word of positive infinity reads as top. -/
theorem top_bits : Ideal.ofBits .f32 0x7F800000#32 = (⊤ : EReal) := by
  simp [Ideal.ofBits, Ideal.ieee]

variable {x0 : FVec Ideal S32768x64 .f32} {x1 : FVec Ideal S16x64 .f32} {x2 : IVec S32768 32} {x3 : FVec Ideal S64x64 .f32}
  {x4 : FVec Ideal S64 .f32} {x5 : FVec Ideal S64x64 .f32} {x6 : FVec Ideal S64x1 .f32}

instance : Subsingleton S_.Idx := ⟨fun _ _ => funext fun k => k.elim0⟩

/-- The precondition: each score weight is a real. -/
theorem decode (h : fn (F := Ideal) x0 x1 x2 x3 x4 x5 x6 = fun _ => 1#1) (i : S64x1.Idx) : (((x6 i : EReal).toReal : ℝ) : EReal) = x6 i := by
  have h1 : Ideal.cmp .olt (max (x6 i : EReal) (-(x6 i : EReal))) (Ideal.ofBits .f32 0x7F800000#32) = 1#1 :=
    Host.reduce_andi_all _ _ _ _ _ (congrFun h (Shape.Idx.first h_S_)) i
  rw [top_bits] at h1
  refine coe_toReal ?_
  by_contra hn
  simp [Ideal.cmp, hn] at h1

/-- The inputs read off the arguments. -/
def inputs (x0 : FVec Ideal S32768x64 .f32) (x1 : FVec Ideal S16x64 .f32) (x2 : IVec S32768 32) (x3 : FVec Ideal S64x64 .f32)
    (x4 : FVec Ideal S64 .f32) (x5 : FVec Ideal S64x64 .f32) (x6 : FVec Ideal S64x1 .f32) : Data where
  feats n d := x0 (ix2 n d)
  users s d := x1 (ix2 s d)
  seg n := x2 (ix1 n)
  userw k d := x3 (ix2 k d)
  bias d := x4 (ix1 d)
  keyw k d := x5 (ix2 k d)
  scorew d := (x6 (ix2 d 0) : EReal).toReal

/-- Arguments that meet the precondition hold some inputs. -/
theorem held (h : fn (F := Ideal) x0 x1 x2 x3 x4 x5 x6 = fun _ => 1#1) : ∃ D : Data, D.Held x0 x1 x2 x3 x4 x5 x6 :=
  ⟨inputs x0 x1 x2 x3 x4 x5 x6,
    { feats := fun _ _ => rfl
      users := fun _ _ => rfl
      seg := fun _ => rfl
      userw := fun _ _ => rfl
      bias := fun _ => rfl
      keyw := fun _ _ => rfl
      scorew := fun _ => (decode h _).symm }⟩

end Readout.Domain

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite_score_weights
public import proofs.«01_k».proof.Proof.Gen.ReferenceIdeal.Read
public import proofs.«01_k».proof.Proof.Readout.Kernel
public import proofs.«01_k».proof.Proof.Readout.Reference
public import proofs.«01_k».proof.Proof.Readout.Domain
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were and every semaphore at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results. -/
theorem results_equal : algebraic_KernelIdeal_ReferenceIdeal_pre_finite_score_weights := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨D, hD⟩ := Readout.Domain.held (hpre c)
  obtain ⟨e0, e1, e2, e3, e4, e5, e6⟩ := hagree c
  rw [Cert.ReferenceIdeal.Read.val_main_v35_eq m' c, e0, e1, e2, e3, e4, e5, e6]
  funext i
  obtain ⟨b, d, rfl⟩ : ∃ (b : Fin 16) (d : Fin 64), i = ix2 b d := ⟨i 0, i 1, eq_ix2 i⟩
  exact (Readout.Reference.result hD b d).trans ((D.shifted_eq_softmax b d).symm.trans (Readout.Kernel.result hD b d).symm)

/-- Every claim of the certificate. -/
theorem claim : Cert.Claim := ⟨Cert.Kernel.Gen.facts, Cert.KernelIdeal.Gen.facts, Cert.ReferenceIdeal.Gen.facts, Cert.Pre_finite_score_weights.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, (trivial : preserves_Kernel_KernelIdeal), results_equal⟩

end Cert.Proof

end
